-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v280) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x3x34x18 : Shape := ⟨4, ![16384, 3, 34, 18]⟩
abbrev S32x3 : Shape := ⟨2, ![32, 3]⟩
abbrev S1x3x3x3 : Shape := ⟨4, ![1, 3, 3, 3]⟩
abbrev S1 : Shape := ⟨1, ![1]⟩
abbrev S10x10 : Shape := ⟨2, ![10, 10]⟩
abbrev S10 : Shape := ⟨1, ![10]⟩
abbrev S1x10 : Shape := ⟨2, ![1, 10]⟩
abbrev S512x512 : Shape := ⟨2, ![512, 512]⟩
abbrev S512 : Shape := ⟨1, ![512]⟩
abbrev S_ : Shape := ⟨0, ![]⟩

class Facts : Prop where
  bcast_S_S16384x3x34x18 : S_.BroadcastsInDim S16384x3x34x18 (![] : Fin 0 → Fin S16384x3x34x18.rank)
  reducesTo_S16384x3x34x18_S_d0_1_2_3 : S16384x3x34x18.ReducesTo [0, 1, 2, 3] S_
  h_S_ : 0 < S_.numel
  bcast_S_S32x3 : S_.BroadcastsInDim S32x3 (![] : Fin 0 → Fin S32x3.rank)
  reducesTo_S32x3_S_d0_1 : S32x3.ReducesTo [0, 1] S_
  bcast_S_S1x3x3x3 : S_.BroadcastsInDim S1x3x3x3 (![] : Fin 0 → Fin S1x3x3x3.rank)
  reducesTo_S1x3x3x3_S_d0_1_2_3 : S1x3x3x3.ReducesTo [0, 1, 2, 3] S_
  bcast_S_S1 : S_.BroadcastsInDim S1 (![] : Fin 0 → Fin S1.rank)
  reducesTo_S1_S_d0 : S1.ReducesTo [0] S_
  bcast_S_S10x10 : S_.BroadcastsInDim S10x10 (![] : Fin 0 → Fin S10x10.rank)
  reducesTo_S10x10_S_d0_1 : S10x10.ReducesTo [0, 1] S_
  bcast_S_S10 : S_.BroadcastsInDim S10 (![] : Fin 0 → Fin S10.rank)
  reducesTo_S10_S_d0 : S10.ReducesTo [0] S_
  bcast_S_S1x10 : S_.BroadcastsInDim S1x10 (![] : Fin 0 → Fin S1x10.rank)
  reducesTo_S1x10_S_d0_1 : S1x10.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_arg11 : FVec F S512 .f32) (main_arg12 : FVec F S512 .f32) (main_v49 : IVec S_ 1) (main_v50 : FVec F S512x512 .f32) : IVec S_ 1 :=
  let main_cst_19 : FVec F S_ .f32 := constant S_ .f32 0x7F800000#32
  let main_v51 : FVec F S512x512 .f32 := broadcastInDim S512x512 ![] bcast_S_S512x512 main_cst_19
  let main_v52 : IVec S512x512 1 := cmpf .olt main_v50 main_v51
  let main_c_20 : IVec S_ 1 := constantI S_ 1 1#1
  let main_v53 : IVec S_ 1 := (fun x v => Host.reduce IntOp.andi x v reducesTo_S512x512_S_d0_1 h_S_) main_v52 main_c_20
  let main_v54 : IVec S_ 1 := andi main_v49 main_v53
  let main_v55 : FVec F S512 .f32 := Host.absf main_arg11
  let main_cst_21 : FVec F S_ .f32 := constant S_ .f32 0x7F800000#32
  let main_v56 : FVec F S512 .f32 := broadcastInDim S512 ![] bcast_S_S512 main_cst_21
  let main_v57 : IVec S512 1 := cmpf .olt main_v55 main_v56
  let main_c_22 : IVec S_ 1 := constantI S_ 1 1#1
  let main_v58 : IVec S_ 1 := (fun x v => Host.reduce IntOp.andi x v reducesTo_S512_S_d0 h_S_) main_v57 main_c_22
  let main_v59 : IVec S_ 1 := andi main_v54 main_v58
  let main_v60 : FVec F S512 .f32 := Host.absf main_arg12
  let main_cst_23 : FVec F S_ .f32 := constant S_ .f32 0x7F800000#32
  let main_v61 : FVec F S512 .f32 := broadcastInDim S512 ![] bcast_S_S512 main_cst_23
  let main_v62 : IVec S512 1 := cmpf .olt main_v60 main_v61
  let main_c_24 : IVec S_ 1 := constantI S_ 1 1#1
  let main_v63 : IVec S_ 1 := (fun x v => Host.reduce IntOp.andi x v reducesTo_S512_S_d0 h_S_) main_v62 main_c_24
  let main_v64 : IVec S_ 1 := andi main_v59 main_v63
  main_v64

def fn_part2 {F : FTy → Type} [FloatOps F] (main_arg7 : FVec F S10 .f32) (main_arg8 : FVec F S1x10 .f32) (main_arg9 : FVec F S1 .f32) (main_arg10 : FVec F S512x512 .f32) (main_arg11 : FVec F S512 .f32) (main_arg12 : FVec F S512 .f32) (main_v29 : IVec S_ 1) (main_v32 : IVec S10x10 1) (main_c_12 : IVec S_ 1) : IVec S_ 1 :=
  let main_v33 : IVec S_ 1 := (fun x v => Host.reduce IntOp.andi x v reducesTo_S10x10_S_d0_1 h_S_) main_v32 main_c_12
  let main_v34 : IVec S_ 1 := andi main_v29 main_v33
  let main_v35 : FVec F S10 .f32 := Host.absf main_arg7
  let main_cst_13 : FVec F S_ .f32 := constant S_ .f32 0x7F800000#32
  let main_v36 : FVec F S10 .f32 := broadcastInDim S10 ![] bcast_S_S10 main_cst_13
  let main_v37 : IVec S10 1 := cmpf .olt main_v35 main_v36
  let main_c_14 : IVec S_ 1 := constantI S_ 1 1#1
  let main_v38 : IVec S_ 1 := (fun x v => Host.reduce IntOp.andi x v reducesTo_S10_S_d0 h_S_) main_v37 main_c_14
  let main_v39 : IVec S_ 1 := andi main_v34 main_v38
  let main_v40 : FVec F S1x10 .f32 := Host.absf main_arg8
  let main_cst_15 : FVec F S_ .f32 := constant S_ .f32 0x7F800000#32
  let main_v41 : FVec F S1x10 .f32 := broadcastInDim S1x10 ![] bcast_S_S1x10 main_cst_15
  let main_v42 : IVec S1x10 1 := cmpf .olt main_v40 main_v41
  let main_c_16 : IVec S_ 1 := constantI S_ 1 1#1
  let main_v43 : IVec S_ 1 := (fun x v => Host.reduce IntOp.andi x v reducesTo_S1x10_S_d0_1 h_S_) main_v42 main_c_16
  let main_v44 : IVec S_ 1 := andi main_v39 main_v43
  let main_v45 : FVec F S1 .f32 := Host.absf main_arg9
  let main_cst_17 : FVec F S_ .f32 := constant S_ .f32 0x7F800000#32
  let main_v46 : FVec F S1 .f32 := broadcastInDim S1 ![] bcast_S_S1 main_cst_17
  let main_v47 : IVec S1 1 := cmpf .olt main_v45 main_v46
  let main_c_18 : IVec S_ 1 := constantI S_ 1 1#1
  let main_v48 : IVec S_ 1 := (fun x v => Host.reduce IntOp.andi x v reducesTo_S1_S_d0 h_S_) main_v47 main_c_18
  let main_v49 : IVec S_ 1 := andi main_v44 main_v48
  let main_v50 : FVec F S512x512 .f32 := Host.absf main_arg10
  fn_part3 (F := F) main_arg11 main_arg12 main_v49 main_v50

def fn_part1 {F : FTy → Type} [FloatOps F] (main_arg4 : FVec F S10x10 .f32) (main_arg5 : FVec F S10 .f32) (main_arg6 : FVec F S10x10 .f32) (main_arg7 : FVec F S10 .f32) (main_arg8 : FVec F S1x10 .f32) (main_arg9 : FVec F S1 .f32) (main_arg10 : FVec F S512x512 .f32) (main_arg11 : FVec F S512 .f32) (main_arg12 : FVec F S512 .f32) (main_v14 : IVec S_ 1) (main_v15 : FVec F S1 .f32) (main_cst_5 : FVec F S_ .f32) : IVec S_ 1 :=
  let main_v16 : FVec F S1 .f32 := broadcastInDim S1 ![] bcast_S_S1 main_cst_5
  let main_v17 : IVec S1 1 := cmpf .olt main_v15 main_v16
  let main_c_6 : IVec S_ 1 := constantI S_ 1 1#1
  let main_v18 : IVec S_ 1 := (fun x v => Host.reduce IntOp.andi x v reducesTo_S1_S_d0 h_S_) main_v17 main_c_6
  let main_v19 : IVec S_ 1 := andi main_v14 main_v18
  let main_v20 : FVec F S10x10 .f32 := Host.absf main_arg4
  let main_cst_7 : FVec F S_ .f32 := constant S_ .f32 0x7F800000#32
  let main_v21 : FVec F S10x10 .f32 := broadcastInDim S10x10 ![] bcast_S_S10x10 main_cst_7
  let main_v22 : IVec S10x10 1 := cmpf .olt main_v20 main_v21
  let main_c_8 : IVec S_ 1 := constantI S_ 1 1#1
  let main_v23 : IVec S_ 1 := (fun x v => Host.reduce IntOp.andi x v reducesTo_S10x10_S_d0_1 h_S_) main_v22 main_c_8
  let main_v24 : IVec S_ 1 := andi main_v19 main_v23
  let main_v25 : FVec F S10 .f32 := Host.absf main_arg5
  let main_cst_9 : FVec F S_ .f32 := constant S_ .f32 0x7F800000#32
  let main_v26 : FVec F S10 .f32 := broadcastInDim S10 ![] bcast_S_S10 main_cst_9
  let main_v27 : IVec S10 1 := cmpf .olt main_v25 main_v26
  let main_c_10 : IVec S_ 1 := constantI S_ 1 1#1
  let main_v28 : IVec S_ 1 := (fun x v => Host.reduce IntOp.andi x v reducesTo_S10_S_d0 h_S_) main_v27 main_c_10
  let main_v29 : IVec S_ 1 := andi main_v24 main_v28
  let main_v30 : FVec F S10x10 .f32 := Host.absf main_arg6
  let main_cst_11 : FVec F S_ .f32 := constant S_ .f32 0x7F800000#32
  let main_v31 : FVec F S10x10 .f32 := broadcastInDim S10x10 ![] bcast_S_S10x10 main_cst_11
  let main_v32 : IVec S10x10 1 := cmpf .olt main_v30 main_v31
  let main_c_12 : IVec S_ 1 := constantI S_ 1 1#1
  fn_part2 (F := F) main_arg7 main_arg8 main_arg9 main_arg10 main_arg11 main_arg12 main_v29 main_v32 main_c_12

def fn {F : FTy → Type} [FloatOps F] (main_arg0 : FVec F S16384x3x34x18 .f32) (main_arg1 : FVec F S32x3 .f32) (main_arg2 : FVec F S1x3x3x3 .f32) (main_arg3 : FVec F S1 .f32) (main_arg4 : FVec F S10x10 .f32) (main_arg5 : FVec F S10 .f32) (main_arg6 : FVec F S10x10 .f32) (main_arg7 : FVec F S10 .f32) (main_arg8 : FVec F S1x10 .f32) (main_arg9 : FVec F S1 .f32) (main_arg10 : FVec F S512x512 .f32) (main_arg11 : FVec F S512 .f32) (main_arg12 : FVec F S512 .f32) (main_arg13 : FVec F S512 .f32) : IVec S_ 1 :=
  let main_v0 : FVec F S16384x3x34x18 .f32 := Host.absf main_arg0
  let main_cst : FVec F S_ .f32 := constant S_ .f32 0x7F800000#32
  let main_v1 : FVec F S16384x3x34x18 .f32 := broadcastInDim S16384x3x34x18 ![] bcast_S_S16384x3x34x18 main_cst
  let main_v2 : IVec S16384x3x34x18 1 := cmpf .olt main_v0 main_v1
  let main_c : IVec S_ 1 := constantI S_ 1 1#1
  let main_v3 : IVec S_ 1 := (fun x v => Host.reduce IntOp.andi x v reducesTo_S16384x3x34x18_S_d0_1_2_3 h_S_) main_v2 main_c
  let main_c_0 : IVec S_ 1 := constantI S_ 1 1#1
  let main_v4 : IVec S_ 1 := andi main_c_0 main_v3
  let main_v5 : FVec F S32x3 .f32 := Host.absf main_arg1
  let main_cst_1 : FVec F S_ .f32 := constant S_ .f32 0x7F800000#32
  let main_v6 : FVec F S32x3 .f32 := broadcastInDim S32x3 ![] bcast_S_S32x3 main_cst_1
  let main_v7 : IVec S32x3 1 := cmpf .olt main_v5 main_v6
  let main_c_2 : IVec S_ 1 := constantI S_ 1 1#1
  let main_v8 : IVec S_ 1 := (fun x v => Host.reduce IntOp.andi x v reducesTo_S32x3_S_d0_1 h_S_) main_v7 main_c_2
  let main_v9 : IVec S_ 1 := andi main_v4 main_v8
  let main_v10 : FVec F S1x3x3x3 .f32 := Host.absf main_arg2
  let main_cst_3 : FVec F S_ .f32 := constant S_ .f32 0x7F800000#32
  let main_v11 : FVec F S1x3x3x3 .f32 := broadcastInDim S1x3x3x3 ![] bcast_S_S1x3x3x3 main_cst_3
  let main_v12 : IVec S1x3x3x3 1 := cmpf .olt main_v10 main_v11
  let main_c_4 : IVec S_ 1 := constantI S_ 1 1#1
  let main_v13 : IVec S_ 1 := (fun x v => Host.reduce IntOp.andi x v reducesTo_S1x3x3x3_S_d0_1_2_3 h_S_) main_v12 main_c_4
  let main_v14 : IVec S_ 1 := andi main_v9 main_v13
  let main_v15 : FVec F S1 .f32 := Host.absf main_arg3
  let main_cst_5 : FVec F S_ .f32 := constant S_ .f32 0x7F800000#32
  fn_part1 (F := F) main_arg4 main_arg5 main_arg6 main_arg7 main_arg8 main_arg9 main_arg10 main_arg11 main_arg12 main_v14 main_v15 main_cst_5
-- ==== Kernel.lean ====
abbrev S16384x3x34x18 : Shape := ⟨4, ![16384, 3, 34, 18]⟩
abbrev S32x3 : Shape := ⟨2, ![32, 3]⟩
abbrev S1x3x3x3 : Shape := ⟨4, ![1, 3, 3, 3]⟩
abbrev S1 : Shape := ⟨1, ![1]⟩
abbrev S10x10 : Shape := ⟨2, ![10, 10]⟩
abbrev S10 : Shape := ⟨1, ![10]⟩
abbrev S1x10 : Shape := ⟨2, ![1, 10]⟩
abbrev S512x512 : Shape := ⟨2, ![512, 512]⟩
abbrev S512 : Shape := ⟨1, ![512]⟩
abbrev S16384x1836 : Shape := ⟨2, ![16384, 1836]⟩
abbrev S1x27 : Shape := ⟨2, ![1, 27]⟩
abbrev S1x1 : Shape := ⟨2, ![1, 1]⟩
abbrev S10x1 : Shape := ⟨2, ![10, 1]⟩
abbrev S1x512 : Shape := ⟨2, ![1, 512]⟩
abbrev S32x32 : Shape := ⟨2, ![32, 32]⟩
abbrev S32x512 : Shape := ⟨2, ![32, 512]⟩
abbrev S1836x512 : Shape := ⟨2, ![1836, 512]⟩
abbrev S32 : Shape := ⟨1, ![32]⟩
abbrev S32x1 : Shape := ⟨2, ![32, 1]⟩
abbrev S1x32 : Shape := ⟨2, ![1, 32]⟩
abbrev S3x10 : Shape := ⟨2, ![3, 10]⟩
abbrev S32x10 : Shape := ⟨2, ![32, 10]⟩
abbrev S1836x1 : Shape := ⟨2, ![1836, 1]⟩
abbrev S16384x512 : Shape := ⟨2, ![16384, 512]⟩
abbrev S256x1836 : Shape := ⟨2, ![256, 1836]⟩
abbrev S2048x512 : Shape := ⟨2, ![2048, 512]⟩
abbrev S2x512 : Shape := ⟨2, ![2, 512]⟩
abbrev S256x512 : Shape := ⟨2, ![256, 512]⟩
abbrev S16384x1x512 : Shape := ⟨3, ![16384, 1, 512]⟩

abbrev nBuf : Space → Nat
  | .hbm => 33
  | .vmem => 25
  | .smem => 0
  | _ => 0

abbrev bufTy : (tb : Table) → Fin (tcTables nBuf tb) → BufTy
  | .hbm, ⟨0, _⟩ => ⟨S16384x3x34x18, .f32⟩
  | .hbm, ⟨1, _⟩ => ⟨S32x3, .f32⟩
  | .hbm, ⟨2, _⟩ => ⟨S1x3x3x3, .f32⟩
  | .hbm, ⟨3, _⟩ => ⟨S1, .f32⟩
  | .hbm, ⟨4, _⟩ => ⟨S10x10, .f32⟩
  | .hbm, ⟨5, _⟩ => ⟨S10, .f32⟩
  | .hbm, ⟨6, _⟩ => ⟨S10x10, .f32⟩
  | .hbm, ⟨7, _⟩ => ⟨S10, .f32⟩
  | .hbm, ⟨8, _⟩ => ⟨S1x10, .f32⟩
  | .hbm, ⟨9, _⟩ => ⟨S1, .f32⟩
  | .hbm, ⟨10, _⟩ => ⟨S512x512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S16384x1836, .f32⟩
  | .hbm, ⟨15, _⟩ => ⟨S16384x1836, .bf16⟩
  | .hbm, ⟨16, _⟩ => ⟨S1x27, .f32⟩
  | .hbm, ⟨17, _⟩ => ⟨S1x1, .f32⟩
  | .hbm, ⟨18, _⟩ => ⟨S10x10, .f32⟩
  | .hbm, ⟨19, _⟩ => ⟨S1x10, .f32⟩
  | .hbm, ⟨20, _⟩ => ⟨S10x10, .f32⟩
  | .hbm, ⟨21, _⟩ => ⟨S1x10, .f32⟩
  | .hbm, ⟨22, _⟩ => ⟨S10x1, .f32⟩
  | .hbm, ⟨23, _⟩ => ⟨S1x1, .f32⟩
  | .hbm, ⟨24, _⟩ => ⟨S1x512, .f32⟩
  | .hbm, ⟨25, _⟩ => ⟨S32x32, .f32⟩
  | .hbm, ⟨26, _⟩ => ⟨S32x512, .f32⟩
  | .hbm, ⟨27, _⟩ => ⟨S1836x512, .f32⟩
  | .hbm, ⟨28, _⟩ => ⟨S1836x512, .bf16⟩
  | .hbm, ⟨29, _⟩ => ⟨S1x512, .f32⟩
  | .hbm, ⟨30, _⟩ => ⟨S1x512, .f32⟩
  | .hbm, ⟨31, _⟩ => ⟨S16384x512, .f32⟩
  | .hbm, ⟨32, _⟩ => ⟨S16384x1x512, .f32⟩
  | .local _ .vmem, ⟨0, _⟩ => ⟨S32x3, .f32⟩
  | .local _ .vmem, ⟨1, _⟩ => ⟨S1x27, .f32⟩
  | .local _ .vmem, ⟨2, _⟩ => ⟨S1x1, .f32⟩
  | .local _ .vmem, ⟨3, _⟩ => ⟨S10x10, .f32⟩
  | .local _ .vmem, ⟨4, _⟩ => ⟨S1x10, .f32⟩
  | .local _ .vmem, ⟨5, _⟩ => ⟨S10x10, .f32⟩
  | .local _ .vmem, ⟨6, _⟩ => ⟨S1x10, .f32⟩
  | .local _ .vmem, ⟨7, _⟩ => ⟨S10x1, .f32⟩
  | .local _ .vmem, ⟨8, _⟩ => ⟨S1x1, .f32⟩
  | .local _ .vmem, ⟨9, _⟩ => ⟨S512x512, .f32⟩
  | .local _ .vmem, ⟨10, _⟩ => ⟨S1x512, .f32⟩
  | .local _ .vmem, ⟨11, _⟩ => ⟨S32x32, .f32⟩
  | .local _ .vmem, ⟨12, _⟩ => ⟨S32x512, .f32⟩
  | .local _ .vmem, ⟨13, _⟩ => ⟨S1836x512, .f32⟩
  | .local _ .vmem, ⟨14, _⟩ => ⟨S256x1836, .bf16⟩
  | .local _ .vmem, ⟨15, _⟩ => ⟨S256x1836, .bf16⟩
  | .local _ .vmem, ⟨16, _⟩ => ⟨S1836x512, .bf16⟩
  | .local _ .vmem, ⟨17, _⟩ => ⟨S32x32, .f32⟩
  | .local _ .vmem, ⟨18, _⟩ => ⟨S32x512, .f32⟩
  | .local _ .vmem, ⟨19, _⟩ => ⟨S1x512, .f32⟩
  | .local _ .vmem, ⟨20, _⟩ => ⟨S1x512, .f32⟩
  | .local _ .vmem, ⟨21, _⟩ => ⟨S2048x512, .f32⟩
  | .local _ .vmem, ⟨22, _⟩ => ⟨S2048x512, .f32⟩
  | .local _ .vmem, ⟨23, _⟩ => ⟨S16384x512, .f32⟩
  | .local _ .vmem, ⟨24, _⟩ => ⟨S2x512, .f32⟩
  | _, _ => ⟨S16384x3x34x18, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc1_scratch0 : Ref sig .tc := ⟨.vmem, 23, rfl⟩
abbrev cc1_scratch1 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem6_1 : DmaSem sig := 22

abbrev nD : Nat := 1
abbrev τ : Topo := Topo.v7x

variable {F : FTy → Type} [FloatOps F]

abbrev grid0 : Pipeline.Grid := .none

abbrev stage0_0 : Fin 1 → Memref sig .tc .vmem S32x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x27 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S10x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1836x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev grid1 : Pipeline.Grid := ⟨1, ![72], ![false]⟩

def k1_cond1 (i : grid1.Coords) : BitVec 1 :=
  let arg0 : BitVec 32 := BitVec.ofNat 32 (i 0).val
  let c64_i32 : BitVec 32 := 64#32
  let v0 : BitVec 1 := Scalar.cmpi .slt arg0 c64_i32
  let v1 : BitVec 32 := Scalar.extui v0
  let c0_i32 : BitVec 32 := 0#32
  let v2 : BitVec 1 := Scalar.cmpi .ne v1 c0_i32
  v2

def k1_off1 (i : grid1.Coords) (c0_i32_13 : BitVec 32) : Fin 2 → Nat :=
  let arg0 : BitVec 32 := BitVec.ofNat 32 (i 0).val
  let c256_i32 : BitVec 32 := 256#32
  let v17 : BitVec 32 := Scalar.muli arg0 c256_i32
  let v23 : BitVec 32 := Scalar.addi v17 c0_i32_13
  let v24 : Index := Scalar.indexCast v23
  let c0_14 : Index := 0#32
  ![v24.toNat, 0]
def k1_cond4 (i : grid1.Coords) : BitVec 1 :=
  let arg0 : BitVec 32 := BitVec.ofNat 32 (i 0).val
  let c64_i32_0 : BitVec 32 := 64#32
  let v3 : BitVec 1 := Scalar.cmpi .sge arg0 c64_i32_0
  let v4 : BitVec 32 := Scalar.extui v3
  let c0_i32_1 : BitVec 32 := 0#32
  let v5 : BitVec 1 := Scalar.cmpi .ne v4 c0_i32_1
  v5

def k1_off2 (i : grid1.Coords) : Fin 2 → Nat :=
  let arg0 : BitVec 32 := BitVec.ofNat 32 (i 0).val
  let c64_i32_2 : BitVec 32 := 64#32
  let v6 : BitVec 32 := Scalar.subi arg0 c64_i32_2
  let c2048_i32 : BitVec 32 := 2048#32
  let v25 : BitVec 32 := Scalar.muli v6 c2048_i32
  let v26 : Index := Scalar.indexCast v25
  let c0_11 : Index := 0#32
  ![v26.toNat, 0]
def cc1_transform_0 (i : grid1.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage1_0 : Fin 2 → Memref sig .tc .vmem S256x1836 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1836x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2048x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S16384x3x34x18 : Shape := ⟨4, ![16384, 3, 34, 18]⟩
abbrev S32x3 : Shape := ⟨2, ![32, 3]⟩
abbrev S1x3x3x3 : Shape := ⟨4, ![1, 3, 3, 3]⟩
abbrev S1 : Shape := ⟨1, ![1]⟩
abbrev S10x10 : Shape := ⟨2, ![10, 10]⟩
abbrev S10 : Shape := ⟨1, ![10]⟩
abbrev S1x10 : Shape := ⟨2, ![1, 10]⟩
abbrev S512x512 : Shape := ⟨2, ![512, 512]⟩
abbrev S512 : Shape := ⟨1, ![512]⟩
abbrev S_ : Shape := ⟨0, ![]⟩
abbrev S16384x32x16 : Shape := ⟨3, ![16384, 32, 16]⟩
abbrev S16384x1x32x16 : Shape := ⟨4, ![16384, 1, 32, 16]⟩
abbrev S1x1x1x1 : Shape := ⟨4, ![1, 1, 1, 1]⟩
abbrev S512x32x512 : Shape := ⟨3, ![512, 32, 512]⟩
abbrev S1x32x3 : Shape := ⟨3, ![1, 32, 3]⟩
abbrev S512x32x3 : Shape := ⟨3, ![512, 32, 3]⟩
abbrev S512x3x32 : Shape := ⟨3, ![512, 3, 32]⟩
abbrev S512x32x32 : Shape := ⟨3, ![512, 32, 32]⟩
abbrev S512x32 : Shape := ⟨2, ![512, 32]⟩
abbrev S512x32x1 : Shape := ⟨3, ![512, 32, 1]⟩
abbrev S512x1x32 : Shape := ⟨3, ![512, 1, 32]⟩
abbrev S512x32x5 : Shape := ⟨3, ![512, 32, 5]⟩
abbrev S512x32x5x1 : Shape := ⟨4, ![512, 32, 5, 1]⟩
abbrev S512x32x5x512 : Shape := ⟨4, ![512, 32, 5, 512]⟩
abbrev S512x32x5x3 : Shape := ⟨4, ![512, 32, 5, 3]⟩
abbrev S512x32x1x3 : Shape := ⟨4, ![512, 32, 1, 3]⟩
abbrev S512x32x1x5x3 : Shape := ⟨5, ![512, 32, 1, 5, 3]⟩
abbrev S512x32x5x10 : Shape := ⟨4, ![512, 32, 5, 10]⟩
abbrev S1x1x1x10 : Shape := ⟨4, ![1, 1, 1, 10]⟩
abbrev S10x1 : Shape := ⟨2, ![10, 1]⟩
abbrev S16384x512 : Shape := ⟨2, ![16384, 512]⟩
abbrev S1x512 : Shape := ⟨2, ![1, 512]⟩
abbrev S16384x1x512 : Shape := ⟨3, ![16384, 1, 512]⟩

abbrev nBuf : Space → Nat
  | .hbm => 338
  | .vmem => 0
  | .smem => 0
  | _ => 0

abbrev hbmTy0_0 (i : Nat) : BufTy := match i % 128 with
  | 0 => ⟨S16384x3x34x18, .f32⟩
  | 1 => ⟨S32x3, .f32⟩
  | 2 => ⟨S1x3x3x3, .f32⟩
  | 3 => ⟨S1, .f32⟩
  | 4 => ⟨S10x10, .f32⟩
  | 5 => ⟨S10, .f32⟩
  | 6 => ⟨S10x10, .f32⟩
  | 7 => ⟨S10, .f32⟩
  | 8 => ⟨S1x10, .f32⟩
  | 9 => ⟨S1, .f32⟩
  | 10 => ⟨S512x512, .f32⟩
  | 11 => ⟨S512, .f32⟩
  | 12 => ⟨S512, .f32⟩
  | 13 => ⟨S512, .f32⟩
  | 14 => ⟨S_, .f32⟩
  | 15 => ⟨S16384x32x16, .f32⟩
  | 16 => ⟨S16384x1x32x16, .f32⟩
  | 17 => ⟨S16384x32x16, .f32⟩
  | 18 => ⟨S1x1x1x1, .f32⟩
  | 19 => ⟨S_, .f32⟩
  | 20 => ⟨S16384x32x16, .f32⟩
  | 21 => ⟨S16384x32x16, .f32⟩
  | 22 => ⟨S16384x32x16, .f32⟩
  | 23 => ⟨S16384x1x32x16, .f32⟩
  | 24 => ⟨S16384x32x16, .f32⟩
  | 25 => ⟨S1x1x1x1, .f32⟩
  | 26 => ⟨S_, .f32⟩
  | 27 => ⟨S16384x32x16, .f32⟩
  | 28 => ⟨S16384x32x16, .f32⟩
  | 29 => ⟨S16384x32x16, .f32⟩
  | 30 => ⟨S16384x1x32x16, .f32⟩
  | 31 => ⟨S16384x32x16, .f32⟩
  | 32 => ⟨S1x1x1x1, .f32⟩
  | 33 => ⟨S_, .f32⟩
  | 34 => ⟨S16384x32x16, .f32⟩
  | 35 => ⟨S16384x32x16, .f32⟩
  | 36 => ⟨S16384x32x16, .f32⟩
  | 37 => ⟨S16384x1x32x16, .f32⟩
  | 38 => ⟨S16384x32x16, .f32⟩
  | 39 => ⟨S1x1x1x1, .f32⟩
  | 40 => ⟨S_, .f32⟩
  | 41 => ⟨S16384x32x16, .f32⟩
  | 42 => ⟨S16384x32x16, .f32⟩
  | 43 => ⟨S16384x32x16, .f32⟩
  | 44 => ⟨S16384x1x32x16, .f32⟩
  | 45 => ⟨S16384x32x16, .f32⟩
  | 46 => ⟨S1x1x1x1, .f32⟩
  | 47 => ⟨S_, .f32⟩
  | 48 => ⟨S16384x32x16, .f32⟩
  | 49 => ⟨S16384x32x16, .f32⟩
  | 50 => ⟨S16384x32x16, .f32⟩
  | 51 => ⟨S16384x1x32x16, .f32⟩
  | 52 => ⟨S16384x32x16, .f32⟩
  | 53 => ⟨S1x1x1x1, .f32⟩
  | 54 => ⟨S_, .f32⟩
  | 55 => ⟨S16384x32x16, .f32⟩
  | 56 => ⟨S16384x32x16, .f32⟩
  | 57 => ⟨S16384x32x16, .f32⟩
  | 58 => ⟨S16384x1x32x16, .f32⟩
  | 59 => ⟨S16384x32x16, .f32⟩
  | 60 => ⟨S1x1x1x1, .f32⟩
  | 61 => ⟨S_, .f32⟩
  | 62 => ⟨S16384x32x16, .f32⟩
  | 63 => ⟨S16384x32x16, .f32⟩
  | 64 => ⟨S16384x32x16, .f32⟩
  | 65 => ⟨S16384x1x32x16, .f32⟩
  | 66 => ⟨S16384x32x16, .f32⟩
  | 67 => ⟨S1x1x1x1, .f32⟩
  | 68 => ⟨S_, .f32⟩
  | 69 => ⟨S16384x32x16, .f32⟩
  | 70 => ⟨S16384x32x16, .f32⟩
  | 71 => ⟨S16384x32x16, .f32⟩
  | 72 => ⟨S16384x1x32x16, .f32⟩
  | 73 => ⟨S16384x32x16, .f32⟩
  | 74 => ⟨S1x1x1x1, .f32⟩
  | 75 => ⟨S_, .f32⟩
  | 76 => ⟨S16384x32x16, .f32⟩
  | 77 => ⟨S16384x32x16, .f32⟩
  | 78 => ⟨S16384x32x16, .f32⟩
  | 79 => ⟨S16384x1x32x16, .f32⟩
  | 80 => ⟨S16384x32x16, .f32⟩
  | 81 => ⟨S1x1x1x1, .f32⟩
  | 82 => ⟨S_, .f32⟩
  | 83 => ⟨S16384x32x16, .f32⟩
  | 84 => ⟨S16384x32x16, .f32⟩
  | 85 => ⟨S16384x32x16, .f32⟩
  | 86 => ⟨S16384x1x32x16, .f32⟩
  | 87 => ⟨S16384x32x16, .f32⟩
  | 88 => ⟨S1x1x1x1, .f32⟩
  | 89 => ⟨S_, .f32⟩
  | 90 => ⟨S16384x32x16, .f32⟩
  | 91 => ⟨S16384x32x16, .f32⟩
  | 92 => ⟨S16384x32x16, .f32⟩
  | 93 => ⟨S16384x1x32x16, .f32⟩
  | 94 => ⟨S16384x32x16, .f32⟩
  | 95 => ⟨S1x1x1x1, .f32⟩
  | 96 => ⟨S_, .f32⟩
  | 97 => ⟨S16384x32x16, .f32⟩
  | 98 => ⟨S16384x32x16, .f32⟩
  | 99 => ⟨S16384x32x16, .f32⟩
  | 100 => ⟨S16384x1x32x16, .f32⟩
  | 101 => ⟨S16384x32x16, .f32⟩
  | 102 => ⟨S1x1x1x1, .f32⟩
  | 103 => ⟨S_, .f32⟩
  | 104 => ⟨S16384x32x16, .f32⟩
  | 105 => ⟨S16384x32x16, .f32⟩
  | 106 => ⟨S16384x32x16, .f32⟩
  | 107 => ⟨S16384x1x32x16, .f32⟩
  | 108 => ⟨S16384x32x16, .f32⟩
  | 109 => ⟨S1x1x1x1, .f32⟩
  | 110 => ⟨S_, .f32⟩
  | 111 => ⟨S16384x32x16, .f32⟩
  | 112 => ⟨S16384x32x16, .f32⟩
  | 113 => ⟨S16384x32x16, .f32⟩
  | 114 => ⟨S16384x1x32x16, .f32⟩
  | 115 => ⟨S16384x32x16, .f32⟩
  | 116 => ⟨S1x1x1x1, .f32⟩
  | 117 => ⟨S_, .f32⟩
  | 118 => ⟨S16384x32x16, .f32⟩
  | 119 => ⟨S16384x32x16, .f32⟩
  | 120 => ⟨S16384x32x16, .f32⟩
  | 121 => ⟨S16384x1x32x16, .f32⟩
  | 122 => ⟨S16384x32x16, .f32⟩
  | 123 => ⟨S1x1x1x1, .f32⟩
  | 124 => ⟨S_, .f32⟩
  | 125 => ⟨S16384x32x16, .f32⟩
  | 126 => ⟨S16384x32x16, .f32⟩
  | 127 => ⟨S16384x32x16, .f32⟩
  | _ => ⟨S16384x3x34x18, .f32⟩

abbrev hbmTy0_1 (i : Nat) : BufTy := match i % 128 with
  | 0 => ⟨S16384x1x32x16, .f32⟩
  | 1 => ⟨S16384x32x16, .f32⟩
  | 2 => ⟨S1x1x1x1, .f32⟩
  | 3 => ⟨S_, .f32⟩
  | 4 => ⟨S16384x32x16, .f32⟩
  | 5 => ⟨S16384x32x16, .f32⟩
  | 6 => ⟨S16384x32x16, .f32⟩
  | 7 => ⟨S16384x1x32x16, .f32⟩
  | 8 => ⟨S16384x32x16, .f32⟩
  | 9 => ⟨S1x1x1x1, .f32⟩
  | 10 => ⟨S_, .f32⟩
  | 11 => ⟨S16384x32x16, .f32⟩
  | 12 => ⟨S16384x32x16, .f32⟩
  | 13 => ⟨S16384x32x16, .f32⟩
  | 14 => ⟨S16384x1x32x16, .f32⟩
  | 15 => ⟨S16384x32x16, .f32⟩
  | 16 => ⟨S1x1x1x1, .f32⟩
  | 17 => ⟨S_, .f32⟩
  | 18 => ⟨S16384x32x16, .f32⟩
  | 19 => ⟨S16384x32x16, .f32⟩
  | 20 => ⟨S16384x32x16, .f32⟩
  | 21 => ⟨S16384x1x32x16, .f32⟩
  | 22 => ⟨S16384x32x16, .f32⟩
  | 23 => ⟨S1x1x1x1, .f32⟩
  | 24 => ⟨S_, .f32⟩
  | 25 => ⟨S16384x32x16, .f32⟩
  | 26 => ⟨S16384x32x16, .f32⟩
  | 27 => ⟨S16384x32x16, .f32⟩
  | 28 => ⟨S16384x1x32x16, .f32⟩
  | 29 => ⟨S16384x32x16, .f32⟩
  | 30 => ⟨S1x1x1x1, .f32⟩
  | 31 => ⟨S_, .f32⟩
  | 32 => ⟨S16384x32x16, .f32⟩
  | 33 => ⟨S16384x32x16, .f32⟩
  | 34 => ⟨S16384x32x16, .f32⟩
  | 35 => ⟨S16384x1x32x16, .f32⟩
  | 36 => ⟨S16384x32x16, .f32⟩
  | 37 => ⟨S1x1x1x1, .f32⟩
  | 38 => ⟨S_, .f32⟩
  | 39 => ⟨S16384x32x16, .f32⟩
  | 40 => ⟨S16384x32x16, .f32⟩
  | 41 => ⟨S16384x32x16, .f32⟩
  | 42 => ⟨S16384x1x32x16, .f32⟩
  | 43 => ⟨S16384x32x16, .f32⟩
  | 44 => ⟨S1x1x1x1, .f32⟩
  | 45 => ⟨S_, .f32⟩
  | 46 => ⟨S16384x32x16, .f32⟩
  | 47 => ⟨S16384x32x16, .f32⟩
  | 48 => ⟨S16384x32x16, .f32⟩
  | 49 => ⟨S16384x1x32x16, .f32⟩
  | 50 => ⟨S16384x32x16, .f32⟩
  | 51 => ⟨S1x1x1x1, .f32⟩
  | 52 => ⟨S_, .f32⟩
  | 53 => ⟨S16384x32x16, .f32⟩
  | 54 => ⟨S16384x32x16, .f32⟩
  | 55 => ⟨S16384x32x16, .f32⟩
  | 56 => ⟨S16384x1x32x16, .f32⟩
  | 57 => ⟨S16384x32x16, .f32⟩
  | 58 => ⟨S1x1x1x1, .f32⟩
  | 59 => ⟨S_, .f32⟩
  | 60 => ⟨S16384x32x16, .f32⟩
  | 61 => ⟨S16384x32x16, .f32⟩
  | 62 => ⟨S16384x32x16, .f32⟩
  | 63 => ⟨S16384x1x32x16, .f32⟩
  | 64 => ⟨S16384x32x16, .f32⟩
  | 65 => ⟨S1x1x1x1, .f32⟩
  | 66 => ⟨S_, .f32⟩
  | 67 => ⟨S16384x32x16, .f32⟩
  | 68 => ⟨S16384x32x16, .f32⟩
  | 69 => ⟨S16384x32x16, .f32⟩
  | 70 => ⟨S16384x1x32x16, .f32⟩
  | 71 => ⟨S16384x32x16, .f32⟩
  | 72 => ⟨S1x1x1x1, .f32⟩
  | 73 => ⟨S_, .f32⟩
  | 74 => ⟨S16384x32x16, .f32⟩
  | 75 => ⟨S16384x32x16, .f32⟩
  | 76 => ⟨S16384x32x16, .f32⟩
  | 77 => ⟨S_, .f32⟩
  | 78 => ⟨S16384x32x16, .f32⟩
  | 79 => ⟨S16384x32x16, .f32⟩
  | 80 => ⟨S512x32x512, .f32⟩
  | 81 => ⟨S1x32x3, .f32⟩
  | 82 => ⟨S512x32x3, .f32⟩
  | 83 => ⟨S512x3x32, .f32⟩
  | 84 => ⟨S512x32x32, .f32⟩
  | 85 => ⟨S_, .f32⟩
  | 86 => ⟨S512x32x32, .f32⟩
  | 87 => ⟨S512x32x32, .f32⟩
  | 88 => ⟨S512x32x3, .f32⟩
  | 89 => ⟨S_, .f32⟩
  | 90 => ⟨S512x32, .f32⟩
  | 91 => ⟨S512x32x1, .f32⟩
  | 92 => ⟨S512x32x1, .f32⟩
  | 93 => ⟨S512x32x32, .f32⟩
  | 94 => ⟨S512x32x32, .f32⟩
  | 95 => ⟨S512x1x32, .f32⟩
  | 96 => ⟨S512x32x32, .f32⟩
  | 97 => ⟨S512x32x32, .f32⟩
  | 98 => ⟨S512x32x5, .f32⟩
  | 99 => ⟨S512x32x5, .i32⟩
  | 100 => ⟨S_, .i32⟩
  | 101 => ⟨S512x32x5, .i32⟩
  | 102 => ⟨S512x32x5, .i1⟩
  | 103 => ⟨S_, .i32⟩
  | 104 => ⟨S512x32x5, .i32⟩
  | 105 => ⟨S512x32x5, .i32⟩
  | 106 => ⟨S512x32x5, .i32⟩
  | 107 => ⟨S512x32x5x1, .i32⟩
  | 108 => ⟨S512x32x5x512, .f32⟩
  | 109 => ⟨S_, .i32⟩
  | 110 => ⟨S512x32x5, .i32⟩
  | 111 => ⟨S512x32x5, .i1⟩
  | 112 => ⟨S_, .i32⟩
  | 113 => ⟨S512x32x5, .i32⟩
  | 114 => ⟨S512x32x5, .i32⟩
  | 115 => ⟨S512x32x5, .i32⟩
  | 116 => ⟨S512x32x5x1, .i32⟩
  | 117 => ⟨S512x32x5x3, .f32⟩
  | 118 => ⟨S512x32x1x3, .f32⟩
  | 119 => ⟨S512x32x1x5x3, .f32⟩
  | 120 => ⟨S512x32x5x3, .f32⟩
  | 121 => ⟨S512x32x5x3, .f32⟩
  | 122 => ⟨S512x32x5x3, .f32⟩
  | 123 => ⟨S_, .f32⟩
  | 124 => ⟨S512x32x5, .f32⟩
  | 125 => ⟨S512x32x5x1, .f32⟩
  | 126 => ⟨S_, .f32⟩
  | 127 => ⟨S512x32x5x1, .f32⟩
  | _ => ⟨S16384x3x34x18, .f32⟩

abbrev hbmTy0_2 (i : Nat) : BufTy := match i % 128 with
  | 0 => ⟨S512x32x5x1, .f32⟩
  | 1 => ⟨S512x32x5x1, .f32⟩
  | 2 => ⟨S512x32x5x10, .f32⟩
  | 3 => ⟨S10x10, .f32⟩
  | 4 => ⟨S512x32x5x10, .f32⟩
  | 5 => ⟨S1x1x1x10, .f32⟩
  | 6 => ⟨S512x32x5x10, .f32⟩
  | 7 => ⟨S512x32x5x10, .f32⟩
  | 8 => ⟨S_, .f32⟩
  | 9 => ⟨S512x32x5x10, .f32⟩
  | 10 => ⟨S512x32x5x10, .f32⟩
  | 11 => ⟨S10x10, .f32⟩
  | 12 => ⟨S512x32x5x10, .f32⟩
  | 13 => ⟨S1x1x1x10, .f32⟩
  | 14 => ⟨S512x32x5x10, .f32⟩
  | 15 => ⟨S512x32x5x10, .f32⟩
  | 16 => ⟨S_, .f32⟩
  | 17 => ⟨S512x32x5x10, .f32⟩
  | 18 => ⟨S512x32x5x10, .f32⟩
  | 19 => ⟨S10x1, .f32⟩
  | 20 => ⟨S512x32x5x1, .f32⟩
  | 21 => ⟨S1x1x1x1, .f32⟩
  | 22 => ⟨S512x32x5x1, .f32⟩
  | 23 => ⟨S512x32x5x1, .f32⟩
  | 24 => ⟨S512x32x5x512, .f32⟩
  | 25 => ⟨S512x32x5x512, .f32⟩
  | 26 => ⟨S_, .f32⟩
  | 27 => ⟨S512x32x512, .f32⟩
  | 28 => ⟨S16384x512, .f32⟩
  | 29 => ⟨S512x512, .f32⟩
  | 30 => ⟨S16384x512, .f32⟩
  | 31 => ⟨S1x512, .f32⟩
  | 32 => ⟨S16384x512, .f32⟩
  | 33 => ⟨S16384x512, .f32⟩
  | 34 => ⟨S_, .f32⟩
  | 35 => ⟨S16384x512, .f32⟩
  | 36 => ⟨S16384x512, .f32⟩
  | 37 => ⟨S_, .f32⟩
  | 38 => ⟨S512, .f32⟩
  | 39 => ⟨S_, .f32⟩
  | 40 => ⟨S512, .f32⟩
  | 41 => ⟨S512, .f32⟩
  | 42 => ⟨S_, .i32⟩
  | 43 => ⟨S_, .f32⟩
  | 44 => ⟨S512, .f32⟩
  | 45 => ⟨S1x512, .f32⟩
  | 46 => ⟨S_, .f32⟩
  | 47 => ⟨S1x512, .f32⟩
  | 48 => ⟨S1x512, .f32⟩
  | 49 => ⟨S16384x512, .f32⟩
  | 50 => ⟨S16384x512, .f32⟩
  | 51 => ⟨S16384x512, .f32⟩
  | 52 => ⟨S_, .f32⟩
  | 53 => ⟨S_, .f32⟩
  | 54 => ⟨S_, .f32⟩
  | 55 => ⟨S_, .f32⟩
  | 56 => ⟨S512, .f32⟩
  | 57 => ⟨S512, .f32⟩
  | 58 => ⟨S512, .f32⟩
  | 59 => ⟨S_, .f32⟩
  | 60 => ⟨S_, .i1⟩
  | 61 => ⟨S_, .f32⟩
  | 62 => ⟨S_, .f32⟩
  | 63 => ⟨S512, .f32⟩
  | 64 => ⟨S512, .f32⟩
  | 65 => ⟨S1x512, .f32⟩
  | 66 => ⟨S16384x512, .f32⟩
  | 67 => ⟨S16384x512, .f32⟩
  | 68 => ⟨S_, .f32⟩
  | 69 => ⟨S512, .f32⟩
  | 70 => ⟨S512, .f32⟩
  | 71 => ⟨S512, .f32⟩
  | 72 => ⟨S1x512, .f32⟩
  | 73 => ⟨S16384x512, .f32⟩
  | 74 => ⟨S16384x512, .f32⟩
  | 75 => ⟨S1x512, .f32⟩
  | 76 => ⟨S16384x512, .f32⟩
  | 77 => ⟨S16384x512, .f32⟩
  | 78 => ⟨S1x512, .f32⟩
  | 79 => ⟨S16384x512, .f32⟩
  | 80 => ⟨S16384x512, .f32⟩
  | 81 => ⟨S16384x1x512, .f32⟩
  | _ => ⟨S16384x3x34x18, .f32⟩

abbrev hbmTy (i : Nat) : BufTy := match i / 128 with
  | 0 => hbmTy0_0 i
  | 1 => hbmTy0_1 i
  | 2 => hbmTy0_2 i
  | _ => ⟨S16384x3x34x18, .f32⟩

abbrev bufTy : (tb : Table) → Fin (tcTables nBuf tb) → BufTy
  | .hbm, ⟨i, _⟩ => hbmTy i
  | _, _ => ⟨S16384x3x34x18, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_cst_0 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_cst_1 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_values : Ref sig .tc := ⟨.hbm, 226, rfl⟩
abbrev main_indices : Ref sig .tc := ⟨.hbm, 227, rfl⟩
abbrev main_c : Ref sig .tc := ⟨.hbm, 228, rfl⟩
abbrev main_v209 : Ref sig .tc := ⟨.hbm, 229, rfl⟩
abbrev main_v210 : Ref sig .tc := ⟨.hbm, 230, rfl⟩
abbrev main_c_2 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_c_3 : Ref sig .tc := ⟨.hbm, 237, rfl⟩
abbrev main_v216 : Ref sig .tc := ⟨.hbm, 238, rfl⟩
abbrev main_v217 : Ref sig .tc := ⟨.hbm, 239, rfl⟩
abbrev main_c_4 : Ref sig .tc := ⟨.hbm, 240, rfl⟩
abbrev main_v218 : Ref sig .tc := ⟨.hbm, 241, rfl⟩
abbrev main_v219 : Ref sig .tc := ⟨.hbm, 242, rfl⟩
abbrev main_v220 : Ref sig .tc := ⟨.hbm, 243, rfl⟩
abbrev main_v221 : Ref sig .tc := ⟨.hbm, 244, rfl⟩
abbrev main_v222 : Ref sig .tc := ⟨.hbm, 245, rfl⟩
abbrev main_v223 : Ref sig .tc := ⟨.hbm, 246, rfl⟩
abbrev main_v224 : Ref sig .tc := ⟨.hbm, 247, rfl⟩
abbrev main_v225 : Ref sig .tc := ⟨.hbm, 248, rfl⟩
abbrev main_v226 : Ref sig .tc := ⟨.hbm, 249, rfl⟩
abbrev main_v227 : Ref sig .tc := ⟨.hbm, 250, rfl⟩
abbrev main_cst_5 : Ref sig .tc := ⟨.hbm, 251, rfl⟩
abbrev main_v228 : Ref sig .tc := ⟨.hbm, 252, rfl⟩
abbrev main_v229 : Ref sig .tc := ⟨.hbm, 253, rfl⟩
abbrev main_cst_6 : Ref sig .tc := ⟨.hbm, 254, rfl⟩
abbrev main_v230 : Ref sig .tc := ⟨.hbm, 255, rfl⟩
abbrev main_v231 : Ref sig .tc := ⟨.hbm, 256, rfl⟩
abbrev main_v232 : Ref sig .tc := ⟨.hbm, 257, rfl⟩
abbrev main_v233 : Ref sig .tc := ⟨.hbm, 258, rfl⟩
abbrev main_v234 : Ref sig .tc := ⟨.hbm, 259, rfl⟩
abbrev main_v235 : Ref sig .tc := ⟨.hbm, 260, rfl⟩
abbrev main_v236 : Ref sig .tc := ⟨.hbm, 261, rfl⟩
abbrev main_v237 : Ref sig .tc := ⟨.hbm, 262, rfl⟩
abbrev main_v238 : Ref sig .tc := ⟨.hbm, 263, rfl⟩
abbrev main_call0_cst : Ref sig .tc := ⟨.hbm, 264, rfl⟩
abbrev main_call0_v0 : Ref sig .tc := ⟨.hbm, 265, rfl⟩
abbrev main_v239 : Ref sig .tc := ⟨.hbm, 266, rfl⟩
abbrev main_v240 : Ref sig .tc := ⟨.hbm, 267, rfl⟩
abbrev main_v241 : Ref sig .tc := ⟨.hbm, 268, rfl⟩
abbrev main_v242 : Ref sig .tc := ⟨.hbm, 269, rfl⟩
abbrev main_v243 : Ref sig .tc := ⟨.hbm, 270, rfl⟩
abbrev main_v244 : Ref sig .tc := ⟨.hbm, 271, rfl⟩
abbrev main_call1_cst : Ref sig .tc := ⟨.hbm, 272, rfl⟩
abbrev main_call1_v0 : Ref sig .tc := ⟨.hbm, 273, rfl⟩
abbrev main_v245 : Ref sig .tc := ⟨.hbm, 274, rfl⟩
abbrev main_v246 : Ref sig .tc := ⟨.hbm, 275, rfl⟩
abbrev main_v247 : Ref sig .tc := ⟨.hbm, 276, rfl⟩
abbrev main_v248 : Ref sig .tc := ⟨.hbm, 277, rfl⟩
abbrev main_v249 : Ref sig .tc := ⟨.hbm, 278, rfl⟩
abbrev main_v250 : Ref sig .tc := ⟨.hbm, 279, rfl⟩
abbrev main_v251 : Ref sig .tc := ⟨.hbm, 280, rfl⟩
abbrev main_v252 : Ref sig .tc := ⟨.hbm, 281, rfl⟩
abbrev main_cst_7 : Ref sig .tc := ⟨.hbm, 282, rfl⟩
abbrev main_v253 : Ref sig .tc := ⟨.hbm, 283, rfl⟩
abbrev main_v254 : Ref sig .tc := ⟨.hbm, 284, rfl⟩
abbrev main_v255 : Ref sig .tc := ⟨.hbm, 285, rfl⟩
abbrev main_v256 : Ref sig .tc := ⟨.hbm, 286, rfl⟩
abbrev main_v257 : Ref sig .tc := ⟨.hbm, 287, rfl⟩
abbrev main_v258 : Ref sig .tc := ⟨.hbm, 288, rfl⟩
abbrev main_v259 : Ref sig .tc := ⟨.hbm, 289, rfl⟩
abbrev main_call2_cst : Ref sig .tc := ⟨.hbm, 290, rfl⟩
abbrev main_call2_v0 : Ref sig .tc := ⟨.hbm, 291, rfl⟩
abbrev main_v260 : Ref sig .tc := ⟨.hbm, 292, rfl⟩
abbrev main_cst_8 : Ref sig .tc := ⟨.hbm, 293, rfl⟩
abbrev main_v261 : Ref sig .tc := ⟨.hbm, 294, rfl⟩
abbrev main_cst_9 : Ref sig .tc := ⟨.hbm, 295, rfl⟩
abbrev main_v262 : Ref sig .tc := ⟨.hbm, 296, rfl⟩
abbrev main_v263 : Ref sig .tc := ⟨.hbm, 297, rfl⟩
abbrev main_c_10 : Ref sig .tc := ⟨.hbm, 298, rfl⟩
abbrev main_call3_cst : Ref sig .tc := ⟨.hbm, 299, rfl⟩
abbrev main_call3_v0 : Ref sig .tc := ⟨.hbm, 300, rfl⟩
abbrev main_call3_v1 : Ref sig .tc := ⟨.hbm, 301, rfl⟩
abbrev main_call3_cst_0 : Ref sig .tc := ⟨.hbm, 302, rfl⟩
abbrev main_call3_v2 : Ref sig .tc := ⟨.hbm, 303, rfl⟩
abbrev main_call3_v3 : Ref sig .tc := ⟨.hbm, 304, rfl⟩
abbrev main_call3_v4 : Ref sig .tc := ⟨.hbm, 305, rfl⟩
abbrev main_call3_v5 : Ref sig .tc := ⟨.hbm, 306, rfl⟩
abbrev main_call3_v6 : Ref sig .tc := ⟨.hbm, 307, rfl⟩
abbrev main_call3_v7 : Ref sig .tc := ⟨.hbm, 308, rfl⟩
abbrev main_call3_cst_1 : Ref sig .tc := ⟨.hbm, 309, rfl⟩
abbrev main_call3_v8 : Ref sig .tc := ⟨.hbm, 310, rfl⟩
abbrev main_call3_cst_2 : Ref sig .tc := ⟨.hbm, 311, rfl⟩
abbrev main_call3_v9 : Ref sig .tc := ⟨.hbm, 312, rfl⟩
abbrev main_call3_v10 : Ref sig .tc := ⟨.hbm, 313, rfl⟩
abbrev main_call3_v11 : Ref sig .tc := ⟨.hbm, 314, rfl⟩
abbrev main_call3_cst_3 : Ref sig .tc := ⟨.hbm, 315, rfl⟩
abbrev main_call3_v12 : Ref sig .tc := ⟨.hbm, 316, rfl⟩
abbrev main_call3_cst_4 : Ref sig .tc := ⟨.hbm, 317, rfl⟩
abbrev main_call3_call0_v0 : Ref sig .tc := ⟨.hbm, 318, rfl⟩
abbrev main_call3_call0_v1 : Ref sig .tc := ⟨.hbm, 319, rfl⟩
abbrev main_v264 : Ref sig .tc := ⟨.hbm, 320, rfl⟩
abbrev main_v265 : Ref sig .tc := ⟨.hbm, 321, rfl⟩
abbrev main_v266 : Ref sig .tc := ⟨.hbm, 322, rfl⟩
abbrev main_v267 : Ref sig .tc := ⟨.hbm, 323, rfl⟩
abbrev main_cst_11 : Ref sig .tc := ⟨.hbm, 324, rfl⟩
abbrev main_v268 : Ref sig .tc := ⟨.hbm, 325, rfl⟩
abbrev main_v269 : Ref sig .tc := ⟨.hbm, 326, rfl⟩
abbrev main_v270 : Ref sig .tc := ⟨.hbm, 327, rfl⟩
abbrev main_v271 : Ref sig .tc := ⟨.hbm, 328, rfl⟩
abbrev main_v272 : Ref sig .tc := ⟨.hbm, 329, rfl⟩
abbrev main_v273 : Ref sig .tc := ⟨.hbm, 330, rfl⟩
abbrev main_v274 : Ref sig .tc := ⟨.hbm, 331, rfl⟩
abbrev main_v275 : Ref sig .tc := ⟨.hbm, 332, rfl⟩
abbrev main_v276 : Ref sig .tc := ⟨.hbm, 333, rfl⟩
abbrev main_v277 : Ref sig .tc := ⟨.hbm, 334, rfl⟩
abbrev main_v278 : Ref sig .tc := ⟨.hbm, 335, rfl⟩
abbrev main_v279 : Ref sig .tc := ⟨.hbm, 336, rfl⟩
abbrev main_v280 : Ref sig .tc := ⟨.hbm, 337, rfl⟩

abbrev nD : Nat := 1
abbrev τ : Topo := Topo.v7x

variable {F : FTy → Type} [FloatOps F]
-- ==== Proof.IRegion0.lean ====
/- REGION 0 of the program: the gridless call that prepares the neighbour matrix, the bias and the folded weights,
   at a parameter `V` (the TensorCore's buffer contents when the region is entered). The windows' blocks, what the body
   leaves in its three result windows, the body's triple, the pipeline's proof data and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__prep_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S32x3 := Rect.unit (s := S32x3) ![0, 0] S32x3.size inb_S32x3_S32x3_0_0
abbrev r0_1 : Rect S1x10 := Rect.unit (s := S1x10) ![0, 0] S1x10.size inb_S1x10_S1x10_0_0
abbrev r0_2 : Rect S1x1 := Rect.unit (s := S1x1) ![0, 0] S1x1.size inb_S1x1_S1x1_0_0
abbrev r0_3 : Rect S10x10 := Rect.unit (s := S10x10) ![0, 0] S3x10.size inb_S10x10_S3x10_0_0
abbrev r0_4 : Rect S10x10 := Rect.unit (s := S10x10) ![3, 0] S3x10.size inb_S10x10_S3x10_3_0
abbrev r0_5 : Rect S10x10 := Rect.unit (s := S10x10) ![6, 0] S3x10.size inb_S10x10_S3x10_6_0
abbrev r0_6 : Rect S10x10 := Rect.unit (s := S10x10) ![9, 0] S1x10.size inb_S10x10_S1x10_9_0
abbrev r0_7 : Rect S10x10 := Rect.unit (s := S10x10) ![0, 0] S10x10.size inb_S10x10_S10x10_0_0
abbrev r0_8 : Rect S10x1 := Rect.unit (s := S10x1) ![0, 0] S10x1.size inb_S10x1_S10x1_0_0
abbrev r0_9 : Rect S32x32 := Rect.unit (s := S32x32) ![0, 0] S32x32.size inb_S32x32_S32x32_0_0
abbrev r0_10 : Rect S512x512 := Rect.unit (s := S512x512) ![0, 0] S512x512.size inb_S512x512_S512x512_0_0
abbrev r0_11 : Rect S1x512 := Rect.unit (s := S1x512) ![0, 0] S1x512.size inb_S1x512_S1x512_0_0
abbrev r0_12 : Rect S32x512 := Rect.unit (s := S32x512) ![0, 0] S32x512.size inb_S32x512_S32x512_0_0
abbrev r0_13 : Rect S1x27 := Rect.unit (s := S1x27) ![0, 0] S1x1.size inb_S1x27_S1x1_0_0
abbrev r0_14 : Rect S1x27 := Rect.unit (s := S1x27) ![0, 1] S1x1.size inb_S1x27_S1x1_0_1
abbrev r0_15 : Rect S1x27 := Rect.unit (s := S1x27) ![0, 2] S1x1.size inb_S1x27_S1x1_0_2
abbrev r0_16 : Rect S1x27 := Rect.unit (s := S1x27) ![0, 3] S1x1.size inb_S1x27_S1x1_0_3
abbrev r0_17 : Rect S1x27 := Rect.unit (s := S1x27) ![0, 4] S1x1.size inb_S1x27_S1x1_0_4
abbrev r0_18 : Rect S1x27 := Rect.unit (s := S1x27) ![0, 5] S1x1.size inb_S1x27_S1x1_0_5
abbrev r0_19 : Rect S1x27 := Rect.unit (s := S1x27) ![0, 6] S1x1.size inb_S1x27_S1x1_0_6
abbrev r0_20 : Rect S1x27 := Rect.unit (s := S1x27) ![0, 7] S1x1.size inb_S1x27_S1x1_0_7
abbrev r0_21 : Rect S1x27 := Rect.unit (s := S1x27) ![0, 8] S1x1.size inb_S1x27_S1x1_0_8
abbrev r0_22 : Rect S1x27 := Rect.unit (s := S1x27) ![0, 9] S1x1.size inb_S1x27_S1x1_0_9
abbrev r0_23 : Rect S1x27 := Rect.unit (s := S1x27) ![0, 10] S1x1.size inb_S1x27_S1x1_0_10
abbrev r0_24 : Rect S1x27 := Rect.unit (s := S1x27) ![0, 11] S1x1.size inb_S1x27_S1x1_0_11
abbrev r0_25 : Rect S1x27 := Rect.unit (s := S1x27) ![0, 12] S1x1.size inb_S1x27_S1x1_0_12
abbrev r0_26 : Rect S1x27 := Rect.unit (s := S1x27) ![0, 13] S1x1.size inb_S1x27_S1x1_0_13
abbrev r0_27 : Rect S1x27 := Rect.unit (s := S1x27) ![0, 14] S1x1.size inb_S1x27_S1x1_0_14
abbrev r0_28 : Rect S1x27 := Rect.unit (s := S1x27) ![0, 15] S1x1.size inb_S1x27_S1x1_0_15
abbrev r0_29 : Rect S1x27 := Rect.unit (s := S1x27) ![0, 16] S1x1.size inb_S1x27_S1x1_0_16
abbrev r0_30 : Rect S1x27 := Rect.unit (s := S1x27) ![0, 17] S1x1.size inb_S1x27_S1x1_0_17
abbrev r0_31 : Rect S1x27 := Rect.unit (s := S1x27) ![0, 18] S1x1.size inb_S1x27_S1x1_0_18
abbrev r0_32 : Rect S1x27 := Rect.unit (s := S1x27) ![0, 19] S1x1.size inb_S1x27_S1x1_0_19
abbrev r0_33 : Rect S1x27 := Rect.unit (s := S1x27) ![0, 20] S1x1.size inb_S1x27_S1x1_0_20
abbrev r0_34 : Rect S1x27 := Rect.unit (s := S1x27) ![0, 21] S1x1.size inb_S1x27_S1x1_0_21
abbrev r0_35 : Rect S1x27 := Rect.unit (s := S1x27) ![0, 22] S1x1.size inb_S1x27_S1x1_0_22
abbrev r0_36 : Rect S1x27 := Rect.unit (s := S1x27) ![0, 23] S1x1.size inb_S1x27_S1x1_0_23
abbrev r0_37 : Rect S1x27 := Rect.unit (s := S1x27) ![0, 24] S1x1.size inb_S1x27_S1x1_0_24
abbrev r0_38 : Rect S1x27 := Rect.unit (s := S1x27) ![0, 25] S1x1.size inb_S1x27_S1x1_0_25
abbrev r0_39 : Rect S1x27 := Rect.unit (s := S1x27) ![0, 26] S1x1.size inb_S1x27_S1x1_0_26
abbrev r0_40 : Rect S1836x512 := Rect.unit (s := S1836x512) ![0, 0] S1836x512.size inb_S1836x512_S1836x512_0_0

/-! ## What the body leaves in each output window's buffer -/

/-! ### Values of the body that the stores' payloads, spelt out, would write more than once

    Each is a vector the body binds (often a part call's result), stated over the input windows' blocks and
    numbered on from the skeleton's payload functions (`k0_pay73` …, after `k0_pay72`), so that
    `out0_W` and the values after it name it instead of spelling it out (`unfold_out out0_W` opens a canon
    with them, `unfold_payloads` opens them with the payloads); the comment after each is the printed function's
    name for the value (a count appended where that name is bound again). -/

def k0_pay73 (x0 : Vec F S32x3 .f32) (x1 : Vec F S1x27 .f32) (x2 : Vec F S1x1 .f32) (x3 : Vec F S10x10 .f32) (x4 : Vec F S1x10 .f32) (x5 : Vec F S10x10 .f32) (x6 : Vec F S1x10 .f32) (x7 : Vec F S10x1 .f32) (x8 : Vec F S1x1 .f32) (x9 : Vec F S512x512 .f32) (x10 : Vec F S1x512 .f32) : IVec S32x32 32 :=
  iota .tc S32x32 32 [1] iota_S32x32_d1_w32 -- `v4`
def k0_pay74 (x0 : Vec F S32x3 .f32) (x1 : Vec F S1x27 .f32) (x2 : Vec F S1x1 .f32) (x3 : Vec F S10x10 .f32) (x4 : Vec F S1x10 .f32) (x5 : Vec F S10x10 .f32) (x6 : Vec F S1x10 .f32) (x7 : Vec F S10x1 .f32) (x8 : Vec F S1x1 .f32) (x9 : Vec F S512x512 .f32) (x10 : Vec F S1x512 .f32) : FVec F S32x32 .f32 :=
  k0_pay2 (View.ld x0 r0_0) -- `v20`
def k0_pay75 (x0 : Vec F S32x3 .f32) (x1 : Vec F S1x27 .f32) (x2 : Vec F S1x1 .f32) (x3 : Vec F S10x10 .f32) (x4 : Vec F S1x10 .f32) (x5 : Vec F S10x10 .f32) (x6 : Vec F S1x10 .f32) (x7 : Vec F S10x1 .f32) (x8 : Vec F S1x1 .f32) (x9 : Vec F S512x512 .f32) (x10 : Vec F S1x512 .f32) : FVec F S1x10 .f32 :=
  k0_pay3 (View.ld x4 r0_1) -- `v22`
def k0_pay76 (x0 : Vec F S32x3 .f32) (x1 : Vec F S1x27 .f32) (x2 : Vec F S1x1 .f32) (x3 : Vec F S10x10 .f32) (x4 : Vec F S1x10 .f32) (x5 : Vec F S10x10 .f32) (x6 : Vec F S1x10 .f32) (x7 : Vec F S10x1 .f32) (x8 : Vec F S1x1 .f32) (x9 : Vec F S512x512 .f32) (x10 : Vec F S1x512 .f32) : FVec F S1x10 .f32 :=
  k0_pay4 (View.ld x6 r0_1) -- `v24`
def k0_pay77 (x0 : Vec F S32x3 .f32) (x1 : Vec F S1x27 .f32) (x2 : Vec F S1x1 .f32) (x3 : Vec F S10x10 .f32) (x4 : Vec F S1x10 .f32) (x5 : Vec F S10x10 .f32) (x6 : Vec F S1x10 .f32) (x7 : Vec F S10x1 .f32) (x8 : Vec F S1x1 .f32) (x9 : Vec F S512x512 .f32) (x10 : Vec F S1x512 .f32) : FVec F S1x1 .f32 :=
  k0_pay5 (View.ld x8 r0_2) -- `v26`
def k0_pay78 (x0 : Vec F S32x3 .f32) (x1 : Vec F S1x27 .f32) (x2 : Vec F S1x1 .f32) (x3 : Vec F S10x10 .f32) (x4 : Vec F S1x10 .f32) (x5 : Vec F S10x10 .f32) (x6 : Vec F S1x10 .f32) (x7 : Vec F S10x1 .f32) (x8 : Vec F S1x1 .f32) (x9 : Vec F S512x512 .f32) (x10 : Vec F S1x512 .f32) : IVec S32x1 32 :=
  k0_pay7 (View.ld x0 r0_0) -- `v35`
def k0_pay79 (x0 : Vec F S32x3 .f32) (x1 : Vec F S1x27 .f32) (x2 : Vec F S1x1 .f32) (x3 : Vec F S10x10 .f32) (x4 : Vec F S1x10 .f32) (x5 : Vec F S10x10 .f32) (x6 : Vec F S1x10 .f32) (x7 : Vec F S10x1 .f32) (x8 : Vec F S1x1 .f32) (x9 : Vec F S512x512 .f32) (x10 : Vec F S1x512 .f32) : FVec F S32x32 .f32 :=
  k0_pay8 (View.ld x0 r0_0) -- `v40`
def k0_pay80 (x0 : Vec F S32x3 .f32) (x1 : Vec F S1x27 .f32) (x2 : Vec F S1x1 .f32) (x3 : Vec F S10x10 .f32) (x4 : Vec F S1x10 .f32) (x5 : Vec F S10x10 .f32) (x6 : Vec F S1x10 .f32) (x7 : Vec F S10x1 .f32) (x8 : Vec F S1x1 .f32) (x9 : Vec F S512x512 .f32) (x10 : Vec F S1x512 .f32) : FVec F S32x3 .f32 :=
  k0_pay9 (View.ld x0 r0_0) (k0_pay79 x0 x1 x2 x3 x4 x5 x6 x7 x8 x9 x10) -- `v41`
def k0_pay81 (x0 : Vec F S32x3 .f32) (x1 : Vec F S1x27 .f32) (x2 : Vec F S1x1 .f32) (x3 : Vec F S10x10 .f32) (x4 : Vec F S1x10 .f32) (x5 : Vec F S10x10 .f32) (x6 : Vec F S1x10 .f32) (x7 : Vec F S10x1 .f32) (x8 : Vec F S1x1 .f32) (x9 : Vec F S512x512 .f32) (x10 : Vec F S1x512 .f32) : FVec F S32x32 .f32 :=
  k0_pay12 (k0_pay73 x0 x1 x2 x3 x4 x5 x6 x7 x8 x9 x10) (k0_pay74 x0 x1 x2 x3 x4 x5 x6 x7 x8 x9 x10) (k0_pay78 x0 x1 x2 x3 x4 x5 x6 x7 x8 x9 x10) -- `v86`
def k0_pay82 (x0 : Vec F S32x3 .f32) (x1 : Vec F S1x27 .f32) (x2 : Vec F S1x1 .f32) (x3 : Vec F S10x10 .f32) (x4 : Vec F S1x10 .f32) (x5 : Vec F S10x10 .f32) (x6 : Vec F S1x10 .f32) (x7 : Vec F S10x1 .f32) (x8 : Vec F S1x1 .f32) (x9 : Vec F S512x512 .f32) (x10 : Vec F S1x512 .f32) : IVec S32x1 32 :=
  k0_pay13 (k0_pay73 x0 x1 x2 x3 x4 x5 x6 x7 x8 x9 x10) (k0_pay74 x0 x1 x2 x3 x4 x5 x6 x7 x8 x9 x10) (k0_pay78 x0 x1 x2 x3 x4 x5 x6 x7 x8 x9 x10) -- `v94`
def k0_pay83 (x0 : Vec F S32x3 .f32) (x1 : Vec F S1x27 .f32) (x2 : Vec F S1x1 .f32) (x3 : Vec F S10x10 .f32) (x4 : Vec F S1x10 .f32) (x5 : Vec F S10x10 .f32) (x6 : Vec F S1x10 .f32) (x7 : Vec F S10x1 .f32) (x8 : Vec F S1x1 .f32) (x9 : Vec F S512x512 .f32) (x10 : Vec F S1x512 .f32) : FVec F S32x32 .f32 :=
  k0_pay28 (k0_pay73 x0 x1 x2 x3 x4 x5 x6 x7 x8 x9 x10) (k0_pay21 (k0_pay73 x0 x1 x2 x3 x4 x5 x6 x7 x8 x9 x10) (k0_pay81 x0 x1 x2 x3 x4 x5 x6 x7 x8 x9 x10) (k0_pay82 x0 x1 x2 x3 x4 x5 x6 x7 x8 x9 x10)) (k0_pay22 (k0_pay73 x0 x1 x2 x3 x4 x5 x6 x7 x8 x9 x10) (k0_pay81 x0 x1 x2 x3 x4 x5 x6 x7 x8 x9 x10) (k0_pay82 x0 x1 x2 x3 x4 x5 x6 x7 x8 x9 x10)) -- `v204`
def k0_pay84 (x0 : Vec F S32x3 .f32) (x1 : Vec F S1x27 .f32) (x2 : Vec F S1x1 .f32) (x3 : Vec F S10x10 .f32) (x4 : Vec F S1x10 .f32) (x5 : Vec F S10x10 .f32) (x6 : Vec F S1x10 .f32) (x7 : Vec F S10x1 .f32) (x8 : Vec F S1x1 .f32) (x9 : Vec F S512x512 .f32) (x10 : Vec F S1x512 .f32) : IVec S32x1 32 :=
  k0_pay29 (k0_pay73 x0 x1 x2 x3 x4 x5 x6 x7 x8 x9 x10) (k0_pay83 x0 x1 x2 x3 x4 x5 x6 x7 x8 x9 x10) -- `v212`
def k0_pay85 (x0 : Vec F S32x3 .f32) (x1 : Vec F S1x27 .f32) (x2 : Vec F S1x1 .f32) (x3 : Vec F S10x10 .f32) (x4 : Vec F S1x10 .f32) (x5 : Vec F S10x10 .f32) (x6 : Vec F S1x10 .f32) (x7 : Vec F S10x1 .f32) (x8 : Vec F S1x1 .f32) (x9 : Vec F S512x512 .f32) (x10 : Vec F S1x512 .f32) : FVec F S32x32 .f32 :=
  k0_pay32 (k0_pay76 x0 x1 x2 x3 x4 x5 x6 x7 x8 x9 x10) (k0_pay77 x0 x1 x2 x3 x4 x5 x6 x7 x8 x9 x10) (k0_pay27 (k0_pay75 x0 x1 x2 x3 x4 x5 x6 x7 x8 x9 x10) (k0_pay76 x0 x1 x2 x3 x4 x5 x6 x7 x8 x9 x10) (k0_pay77 x0 x1 x2 x3 x4 x5 x6 x7 x8 x9 x10) (k0_pay80 x0 x1 x2 x3 x4 x5 x6 x7 x8 x9 x10) (k0_pay20 (k0_pay75 x0 x1 x2 x3 x4 x5 x6 x7 x8 x9 x10) (k0_pay76 x0 x1 x2 x3 x4 x5 x6 x7 x8 x9 x10) (k0_pay77 x0 x1 x2 x3 x4 x5 x6 x7 x8 x9 x10) (k0_pay11 (k0_pay6 (F := F)) (k0_pay79 x0 x1 x2 x3 x4 x5 x6 x7 x8 x9 x10) (k0_pay10 (View.ld x0 r0_0) (k0_pay75 x0 x1 x2 x3 x4 x5 x6 x7 x8 x9 x10) (k0_pay76 x0 x1 x2 x3 x4 x5 x6 x7 x8 x9 x10) (k0_pay77 x0 x1 x2 x3 x4 x5 x6 x7 x8 x9 x10) (k0_pay79 x0 x1 x2 x3 x4 x5 x6 x7 x8 x9 x10) (View.ld x3 r0_3) (View.ld x3 r0_4) (View.ld x3 r0_5) (View.ld x3 r0_6) (View.ld x5 r0_7) (View.ld x7 r0_8))) (k0_pay14 (k0_pay73 x0 x1 x2 x3 x4 x5 x6 x7 x8 x9 x10) (k0_pay74 x0 x1 x2 x3 x4 x5 x6 x7 x8 x9 x10) (k0_pay78 x0 x1 x2 x3 x4 x5 x6 x7 x8 x9 x10)) (k0_pay17 (View.ld x0 r0_0) (k0_pay73 x0 x1 x2 x3 x4 x5 x6 x7 x8 x9 x10) (k0_pay74 x0 x1 x2 x3 x4 x5 x6 x7 x8 x9 x10) (k0_pay78 x0 x1 x2 x3 x4 x5 x6 x7 x8 x9 x10) (k0_pay80 x0 x1 x2 x3 x4 x5 x6 x7 x8 x9 x10) (View.ld x3 r0_3) (View.ld x3 r0_4) (View.ld x3 r0_5)) (k0_pay18 (View.ld x0 r0_0) (k0_pay73 x0 x1 x2 x3 x4 x5 x6 x7 x8 x9 x10) (k0_pay74 x0 x1 x2 x3 x4 x5 x6 x7 x8 x9 x10) (k0_pay78 x0 x1 x2 x3 x4 x5 x6 x7 x8 x9 x10) (k0_pay80 x0 x1 x2 x3 x4 x5 x6 x7 x8 x9 x10)) (k0_pay19 (View.ld x3 r0_6)) (View.ld x5 r0_7) (View.ld x7 r0_8)) (k0_pay23 (k0_pay73 x0 x1 x2 x3 x4 x5 x6 x7 x8 x9 x10) (k0_pay81 x0 x1 x2 x3 x4 x5 x6 x7 x8 x9 x10) (k0_pay82 x0 x1 x2 x3 x4 x5 x6 x7 x8 x9 x10)) (k0_pay24 (View.ld x0 r0_0) (k0_pay73 x0 x1 x2 x3 x4 x5 x6 x7 x8 x9 x10) (k0_pay81 x0 x1 x2 x3 x4 x5 x6 x7 x8 x9 x10) (k0_pay82 x0 x1 x2 x3 x4 x5 x6 x7 x8 x9 x10)) (k0_pay25 (View.ld x0 r0_0) (k0_pay73 x0 x1 x2 x3 x4 x5 x6 x7 x8 x9 x10) (k0_pay80 x0 x1 x2 x3 x4 x5 x6 x7 x8 x9 x10) (k0_pay81 x0 x1 x2 x3 x4 x5 x6 x7 x8 x9 x10) (k0_pay82 x0 x1 x2 x3 x4 x5 x6 x7 x8 x9 x10)) (k0_pay26 (View.ld x0 r0_0) (k0_pay73 x0 x1 x2 x3 x4 x5 x6 x7 x8 x9 x10) (k0_pay80 x0 x1 x2 x3 x4 x5 x6 x7 x8 x9 x10) (k0_pay81 x0 x1 x2 x3 x4 x5 x6 x7 x8 x9 x10) (k0_pay82 x0 x1 x2 x3 x4 x5 x6 x7 x8 x9 x10)) (View.ld x3 r0_3) (View.ld x3 r0_4) (View.ld x3 r0_5) (View.ld x3 r0_6) (View.ld x5 r0_7) (View.ld x7 r0_8)) (k0_pay30 (k0_pay73 x0 x1 x2 x3 x4 x5 x6 x7 x8 x9 x10) (k0_pay83 x0 x1 x2 x3 x4 x5 x6 x7 x8 x9 x10)) (k0_pay31 (View.ld x0 r0_0) (k0_pay73 x0 x1 x2 x3 x4 x5 x6 x7 x8 x9 x10) (k0_pay75 x0 x1 x2 x3 x4 x5 x6 x7 x8 x9 x10) (k0_pay80 x0 x1 x2 x3 x4 x5 x6 x7 x8 x9 x10) (k0_pay83 x0 x1 x2 x3 x4 x5 x6 x7 x8 x9 x10) (View.ld x3 r0_3) (View.ld x3 r0_4) (View.ld x3 r0_5) (View.ld x3 r0_6)) (View.ld x5 r0_7) (View.ld x7 r0_8) -- `v259`
def k0_pay86 (x0 : Vec F S32x3 .f32) (x1 : Vec F S1x27 .f32) (x2 : Vec F S1x1 .f32) (x3 : Vec F S10x10 .f32) (x4 : Vec F S1x10 .f32) (x5 : Vec F S10x10 .f32) (x6 : Vec F S1x10 .f32) (x7 : Vec F S10x1 .f32) (x8 : Vec F S1x1 .f32) (x9 : Vec F S512x512 .f32) (x10 : Vec F S1x512 .f32) : FVec F S32x32 .f32 :=
  k0_pay33 (k0_pay73 x0 x1 x2 x3 x4 x5 x6 x7 x8 x9 x10) (k0_pay83 x0 x1 x2 x3 x4 x5 x6 x7 x8 x9 x10) (k0_pay84 x0 x1 x2 x3 x4 x5 x6 x7 x8 x9 x10) -- `v276`
def k0_pay87 (x0 : Vec F S32x3 .f32) (x1 : Vec F S1x27 .f32) (x2 : Vec F S1x1 .f32) (x3 : Vec F S10x10 .f32) (x4 : Vec F S1x10 .f32) (x5 : Vec F S10x10 .f32) (x6 : Vec F S1x10 .f32) (x7 : Vec F S10x1 .f32) (x8 : Vec F S1x1 .f32) (x9 : Vec F S512x512 .f32) (x10 : Vec F S1x512 .f32) : FVec F S32x3 .f32 :=
  k0_pay34 (View.ld x0 r0_0) (k0_pay73 x0 x1 x2 x3 x4 x5 x6 x7 x8 x9 x10) (k0_pay83 x0 x1 x2 x3 x4 x5 x6 x7 x8 x9 x10) (k0_pay84 x0 x1 x2 x3 x4 x5 x6 x7 x8 x9 x10) -- `v277`
def k0_pay88 (x0 : Vec F S32x3 .f32) (x1 : Vec F S1x27 .f32) (x2 : Vec F S1x1 .f32) (x3 : Vec F S10x10 .f32) (x4 : Vec F S1x10 .f32) (x5 : Vec F S10x10 .f32) (x6 : Vec F S1x10 .f32) (x7 : Vec F S10x1 .f32) (x8 : Vec F S1x1 .f32) (x9 : Vec F S512x512 .f32) (x10 : Vec F S1x512 .f32) : FVec F S32x3 .f32 :=
  k0_pay35 (View.ld x0 r0_0) (k0_pay73 x0 x1 x2 x3 x4 x5 x6 x7 x8 x9 x10) (k0_pay80 x0 x1 x2 x3 x4 x5 x6 x7 x8 x9 x10) (k0_pay83 x0 x1 x2 x3 x4 x5 x6 x7 x8 x9 x10) (k0_pay84 x0 x1 x2 x3 x4 x5 x6 x7 x8 x9 x10) -- `v278`
def k0_pay89 (x0 : Vec F S32x3 .f32) (x1 : Vec F S1x27 .f32) (x2 : Vec F S1x1 .f32) (x3 : Vec F S10x10 .f32) (x4 : Vec F S1x10 .f32) (x5 : Vec F S10x10 .f32) (x6 : Vec F S1x10 .f32) (x7 : Vec F S10x1 .f32) (x8 : Vec F S1x1 .f32) (x9 : Vec F S512x512 .f32) (x10 : Vec F S1x512 .f32) : FVec F S32x1 .f32 :=
  k0_pay36 (View.ld x0 r0_0) (k0_pay73 x0 x1 x2 x3 x4 x5 x6 x7 x8 x9 x10) (k0_pay80 x0 x1 x2 x3 x4 x5 x6 x7 x8 x9 x10) (k0_pay83 x0 x1 x2 x3 x4 x5 x6 x7 x8 x9 x10) (k0_pay84 x0 x1 x2 x3 x4 x5 x6 x7 x8 x9 x10) -- `v282`
def k0_pay90 (x0 : Vec F S32x3 .f32) (x1 : Vec F S1x27 .f32) (x2 : Vec F S1x1 .f32) (x3 : Vec F S10x10 .f32) (x4 : Vec F S1x10 .f32) (x5 : Vec F S10x10 .f32) (x6 : Vec F S1x10 .f32) (x7 : Vec F S10x1 .f32) (x8 : Vec F S1x1 .f32) (x9 : Vec F S512x512 .f32) (x10 : Vec F S1x512 .f32) : FVec F S32x10 .f32 :=
  k0_pay37 (k0_pay80 x0 x1 x2 x3 x4 x5 x6 x7 x8 x9 x10) (View.ld x3 r0_3) -- `v285`
def k0_pay91 (x0 : Vec F S32x3 .f32) (x1 : Vec F S1x27 .f32) (x2 : Vec F S1x1 .f32) (x3 : Vec F S10x10 .f32) (x4 : Vec F S1x10 .f32) (x5 : Vec F S10x10 .f32) (x6 : Vec F S1x10 .f32) (x7 : Vec F S10x1 .f32) (x8 : Vec F S1x1 .f32) (x9 : Vec F S512x512 .f32) (x10 : Vec F S1x512 .f32) : IVec S1836x1 32 :=
  iota .tc S1836x1 32 [0] iota_S1836x1_d0_w32 -- `v337`
def k0_pay92 (x0 : Vec F S32x3 .f32) (x1 : Vec F S1x27 .f32) (x2 : Vec F S1x1 .f32) (x3 : Vec F S10x10 .f32) (x4 : Vec F S1x10 .f32) (x5 : Vec F S10x10 .f32) (x6 : Vec F S1x10 .f32) (x7 : Vec F S10x1 .f32) (x8 : Vec F S1x1 .f32) (x9 : Vec F S512x512 .f32) (x10 : Vec F S1x512 .f32) : IVec S1x512 32 :=
  k0_pay42 -- `v362`
def k0_pay93 (x0 : Vec F S32x3 .f32) (x1 : Vec F S1x27 .f32) (x2 : Vec F S1x1 .f32) (x3 : Vec F S10x10 .f32) (x4 : Vec F S1x10 .f32) (x5 : Vec F S10x10 .f32) (x6 : Vec F S1x10 .f32) (x7 : Vec F S10x1 .f32) (x8 : Vec F S1x1 .f32) (x9 : Vec F S512x512 .f32) (x10 : Vec F S1x512 .f32) : IVec S1x512 32 :=
  k0_pay43 -- `v366`
def k0_pay94 (x0 : Vec F S32x3 .f32) (x1 : Vec F S1x27 .f32) (x2 : Vec F S1x1 .f32) (x3 : Vec F S10x10 .f32) (x4 : Vec F S1x10 .f32) (x5 : Vec F S10x10 .f32) (x6 : Vec F S1x10 .f32) (x7 : Vec F S10x1 .f32) (x8 : Vec F S1x1 .f32) (x9 : Vec F S512x512 .f32) (x10 : Vec F S1x512 .f32) : IVec S1x512 32 :=
  k0_pay44 (Scalar.select (Scalar.cmpi .eq 16#32 0#32) 1#32 16#32) (k0_pay93 x0 x1 x2 x3 x4 x5 x6 x7 x8 x9 x10) -- `v378`

/-- Window 11's staging buffer after the body, from the input windows' blocks: its 1 store as pieces, LAST
    FIRST (`View.canon`; the payloads are the skeleton's and the values stated above). -/
def out0_11 (x0 : Vec F S32x3 .f32) (x1 : Vec F S1x27 .f32) (x2 : Vec F S1x1 .f32) (x3 : Vec F S10x10 .f32) (x4 : Vec F S1x10 .f32) (x5 : Vec F S10x10 .f32) (x6 : Vec F S1x10 .f32) (x7 : Vec F S10x1 .f32) (x8 : Vec F S1x1 .f32) (x9 : Vec F S512x512 .f32) (x10 : Vec F S1x512 .f32) : Vec F S32x32 .f32 :=
  View.canon [⟨r0_9, k0_pay38 (k0_pay75 x0 x1 x2 x3 x4 x5 x6 x7 x8 x9 x10) (k0_pay76 x0 x1 x2 x3 x4 x5 x6 x7 x8 x9 x10) (k0_pay77 x0 x1 x2 x3 x4 x5 x6 x7 x8 x9 x10) (k0_pay85 x0 x1 x2 x3 x4 x5 x6 x7 x8 x9 x10) (k0_pay86 x0 x1 x2 x3 x4 x5 x6 x7 x8 x9 x10) (k0_pay87 x0 x1 x2 x3 x4 x5 x6 x7 x8 x9 x10) (k0_pay88 x0 x1 x2 x3 x4 x5 x6 x7 x8 x9 x10) (k0_pay89 x0 x1 x2 x3 x4 x5 x6 x7 x8 x9 x10) (k0_pay90 x0 x1 x2 x3 x4 x5 x6 x7 x8 x9 x10) (View.ld x3 r0_4) (View.ld x3 r0_5) (View.ld x3 r0_6) (View.ld x5 r0_7) (View.ld x7 r0_8)⟩]

/-- Its stores tile the buffer (checked by evaluation), so they cover it. -/
theorem cover0_11 (p0 : Vec F S32x32 .f32) (y : S32x32.Idx) :
    ∃ pc ∈ ([⟨r0_9, p0⟩] : List (View.Piece (Elt F) S32x32 .f32)), y ∈ pc.1.set :=
  View.cover_of_tiled [⟨r0_9, p0⟩] S32x32.size (by rfl) y

/-- Window 12's staging buffer after the body, from the input windows' blocks: its 1 store as pieces, LAST
    FIRST (`View.canon`; the payloads are the skeleton's and the values stated above). -/
def out0_12 (x0 : Vec F S32x3 .f32) (x1 : Vec F S1x27 .f32) (x2 : Vec F S1x1 .f32) (x3 : Vec F S10x10 .f32) (x4 : Vec F S1x10 .f32) (x5 : Vec F S10x10 .f32) (x6 : Vec F S1x10 .f32) (x7 : Vec F S10x1 .f32) (x8 : Vec F S1x1 .f32) (x9 : Vec F S512x512 .f32) (x10 : Vec F S1x512 .f32) : Vec F S32x512 .f32 :=
  View.canon [⟨r0_12, k0_pay41 (k0_pay39 (k0_pay75 x0 x1 x2 x3 x4 x5 x6 x7 x8 x9 x10) (k0_pay76 x0 x1 x2 x3 x4 x5 x6 x7 x8 x9 x10) (k0_pay77 x0 x1 x2 x3 x4 x5 x6 x7 x8 x9 x10) (k0_pay85 x0 x1 x2 x3 x4 x5 x6 x7 x8 x9 x10) (k0_pay86 x0 x1 x2 x3 x4 x5 x6 x7 x8 x9 x10) (k0_pay87 x0 x1 x2 x3 x4 x5 x6 x7 x8 x9 x10) (k0_pay88 x0 x1 x2 x3 x4 x5 x6 x7 x8 x9 x10) (k0_pay89 x0 x1 x2 x3 x4 x5 x6 x7 x8 x9 x10) (k0_pay90 x0 x1 x2 x3 x4 x5 x6 x7 x8 x9 x10) (View.ld x3 r0_4) (View.ld x3 r0_5) (View.ld x3 r0_6) (View.ld x5 r0_7) (View.ld x7 r0_8)) (k0_pay40 (F := F)) (View.ld x9 r0_10) (constant S1x512 .f32 0x00000000#32) (View.ld x2 r0_2) (View.ld x10 r0_11)⟩]

/-- Its stores tile the buffer (checked by evaluation), so they cover it. -/
theorem cover0_12 (p0 : Vec F S32x512 .f32) (y : S32x512.Idx) :
    ∃ pc ∈ ([⟨r0_12, p0⟩] : List (View.Piece (Elt F) S32x512 .f32)), y ∈ pc.1.set :=
  View.cover_of_tiled [⟨r0_12, p0⟩] S32x512.size (by rfl) y

/-- Window 13's staging buffer after the body, from the input windows' blocks: its 1 store as pieces, LAST
    FIRST (`View.canon`; the payloads are the skeleton's and the values stated above). -/
def out0_13 (x0 : Vec F S32x3 .f32) (x1 : Vec F S1x27 .f32) (x2 : Vec F S1x1 .f32) (x3 : Vec F S10x10 .f32) (x4 : Vec F S1x10 .f32) (x5 : Vec F S10x10 .f32) (x6 : Vec F S1x10 .f32) (x7 : Vec F S10x1 .f32) (x8 : Vec F S1x1 .f32) (x9 : Vec F S512x512 .f32) (x10 : Vec F S1x512 .f32) : Vec F S1836x512 .f32 :=
  View.canon [⟨r0_40, k0_pay1 (k0_pay72 (k0_pay91 x0 x1 x2 x3 x4 x5 x6 x7 x8 x9 x10) (k0_pay92 x0 x1 x2 x3 x4 x5 x6 x7 x8 x9 x10) (k0_pay94 x0 x1 x2 x3 x4 x5 x6 x7 x8 x9 x10) (k0_pay70 (k0_pay91 x0 x1 x2 x3 x4 x5 x6 x7 x8 x9 x10) (k0_pay92 x0 x1 x2 x3 x4 x5 x6 x7 x8 x9 x10) (k0_pay94 x0 x1 x2 x3 x4 x5 x6 x7 x8 x9 x10) (k0_pay67 (k0_pay91 x0 x1 x2 x3 x4 x5 x6 x7 x8 x9 x10) (k0_pay92 x0 x1 x2 x3 x4 x5 x6 x7 x8 x9 x10) (k0_pay94 x0 x1 x2 x3 x4 x5 x6 x7 x8 x9 x10) (k0_pay65 (k0_pay91 x0 x1 x2 x3 x4 x5 x6 x7 x8 x9 x10) (k0_pay92 x0 x1 x2 x3 x4 x5 x6 x7 x8 x9 x10) (k0_pay94 x0 x1 x2 x3 x4 x5 x6 x7 x8 x9 x10) (k0_pay62 (k0_pay91 x0 x1 x2 x3 x4 x5 x6 x7 x8 x9 x10) (k0_pay92 x0 x1 x2 x3 x4 x5 x6 x7 x8 x9 x10) (k0_pay94 x0 x1 x2 x3 x4 x5 x6 x7 x8 x9 x10) (k0_pay60 (k0_pay91 x0 x1 x2 x3 x4 x5 x6 x7 x8 x9 x10) (k0_pay92 x0 x1 x2 x3 x4 x5 x6 x7 x8 x9 x10) (k0_pay94 x0 x1 x2 x3 x4 x5 x6 x7 x8 x9 x10) (k0_pay57 (k0_pay91 x0 x1 x2 x3 x4 x5 x6 x7 x8 x9 x10) (k0_pay92 x0 x1 x2 x3 x4 x5 x6 x7 x8 x9 x10) (k0_pay94 x0 x1 x2 x3 x4 x5 x6 x7 x8 x9 x10) (k0_pay54 (k0_pay91 x0 x1 x2 x3 x4 x5 x6 x7 x8 x9 x10) (k0_pay92 x0 x1 x2 x3 x4 x5 x6 x7 x8 x9 x10) (k0_pay94 x0 x1 x2 x3 x4 x5 x6 x7 x8 x9 x10) (k0_pay51 (k0_pay91 x0 x1 x2 x3 x4 x5 x6 x7 x8 x9 x10) (k0_pay92 x0 x1 x2 x3 x4 x5 x6 x7 x8 x9 x10) (k0_pay94 x0 x1 x2 x3 x4 x5 x6 x7 x8 x9 x10) (k0_pay49 (k0_pay91 x0 x1 x2 x3 x4 x5 x6 x7 x8 x9 x10) (k0_pay92 x0 x1 x2 x3 x4 x5 x6 x7 x8 x9 x10) (k0_pay94 x0 x1 x2 x3 x4 x5 x6 x7 x8 x9 x10) (k0_pay47 (k0_pay91 x0 x1 x2 x3 x4 x5 x6 x7 x8 x9 x10) (k0_pay92 x0 x1 x2 x3 x4 x5 x6 x7 x8 x9 x10) (k0_pay94 x0 x1 x2 x3 x4 x5 x6 x7 x8 x9 x10) (k0_pay45 (k0_pay91 x0 x1 x2 x3 x4 x5 x6 x7 x8 x9 x10) (k0_pay92 x0 x1 x2 x3 x4 x5 x6 x7 x8 x9 x10) (Scalar.select (Scalar.cmpi .eq 16#32 0#32) 1#32 16#32) (k0_pay93 x0 x1 x2 x3 x4 x5 x6 x7 x8 x9 x10) (View.ld x1 r0_13)) (k0_pay46 (k0_pay91 x0 x1 x2 x3 x4 x5 x6 x7 x8 x9 x10) (k0_pay92 x0 x1 x2 x3 x4 x5 x6 x7 x8 x9 x10) (Scalar.select (Scalar.cmpi .eq 16#32 0#32) 1#32 16#32) (k0_pay93 x0 x1 x2 x3 x4 x5 x6 x7 x8 x9 x10)) (View.ld x1 r0_14) (View.ld x1 r0_15)) (k0_pay48 (k0_pay91 x0 x1 x2 x3 x4 x5 x6 x7 x8 x9 x10) (k0_pay92 x0 x1 x2 x3 x4 x5 x6 x7 x8 x9 x10) (k0_pay94 x0 x1 x2 x3 x4 x5 x6 x7 x8 x9 x10) (View.ld x1 r0_16)) (View.ld x1 r0_17) (View.ld x1 r0_18)) (k0_pay50 (k0_pay92 x0 x1 x2 x3 x4 x5 x6 x7 x8 x9 x10)) 0#32 (View.ld x1 r0_19) (View.ld x1 r0_20)) (k0_pay52 (k0_pay91 x0 x1 x2 x3 x4 x5 x6 x7 x8 x9 x10)) (k0_pay53 (k0_pay92 x0 x1 x2 x3 x4 x5 x6 x7 x8 x9 x10) (k0_pay94 x0 x1 x2 x3 x4 x5 x6 x7 x8 x9 x10)) (View.ld x1 r0_21) (View.ld x1 r0_22)) (k0_pay55 (k0_pay91 x0 x1 x2 x3 x4 x5 x6 x7 x8 x9 x10) (k0_pay92 x0 x1 x2 x3 x4 x5 x6 x7 x8 x9 x10) (k0_pay94 x0 x1 x2 x3 x4 x5 x6 x7 x8 x9 x10)) (Scalar.ofBits .f32 0x00000000#32) (k0_pay56 (View.ld x1 r0_23)) (View.ld x1 r0_24) (View.ld x1 r0_25)) (k0_pay58 (k0_pay92 x0 x1 x2 x3 x4 x5 x6 x7 x8 x9 x10)) k0_pay59 (View.ld x1 r0_26) (View.ld x1 r0_27)) (k0_pay61 (k0_pay92 x0 x1 x2 x3 x4 x5 x6 x7 x8 x9 x10) (k0_pay94 x0 x1 x2 x3 x4 x5 x6 x7 x8 x9 x10)) (View.ld x1 r0_28) (View.ld x1 r0_29)) (k0_pay63 (k0_pay91 x0 x1 x2 x3 x4 x5 x6 x7 x8 x9 x10) (k0_pay92 x0 x1 x2 x3 x4 x5 x6 x7 x8 x9 x10) (k0_pay94 x0 x1 x2 x3 x4 x5 x6 x7 x8 x9 x10)) (k0_pay64 (View.ld x1 r0_30)) (Scalar.ofBits .f32 0x00000000#32) (View.ld x1 r0_31) (View.ld x1 r0_32)) (k0_pay66 (k0_pay92 x0 x1 x2 x3 x4 x5 x6 x7 x8 x9 x10)) (View.ld x1 r0_33) (View.ld x1 r0_34)) (k0_pay68 (k0_pay92 x0 x1 x2 x3 x4 x5 x6 x7 x8 x9 x10)) k0_pay69 (View.ld x1 r0_35) (View.ld x1 r0_36)) (k0_pay71 (k0_pay91 x0 x1 x2 x3 x4 x5 x6 x7 x8 x9 x10) (k0_pay92 x0 x1 x2 x3 x4 x5 x6 x7 x8 x9 x10) (k0_pay94 x0 x1 x2 x3 x4 x5 x6 x7 x8 x9 x10)) (View.ld x1 r0_37) (View.ld x1 r0_38) (View.ld x1 r0_39)) (View.ld x9 r0_10)⟩]

/-- Its stores tile the buffer (checked by evaluation), so they cover it. -/
theorem cover0_13 (p0 : Vec F S1836x512 .f32) (y : S1836x512.Idx) :
    ∃ pc ∈ ([⟨r0_40, p0⟩] : List (View.Piece (Elt F) S1836x512 .f32)), y ∈ pc.1.set :=
  View.cover_of_tiled [⟨r0_40, p0⟩] S1836x512.size (by rfl) y

/-! ## The body's triple -/

set_option maxHeartbeats 1163800 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel0 (c : Dev nD) (E : Set ℕ) (arg0 : Memref sig .tc .vmem S32x3 .f32) (harg0 : arg0.IsWhole) (arg1 : Memref sig .tc .vmem S1x27 .f32) (harg1 : arg1.IsWhole) (arg2 : Memref sig .tc .vmem S1x1 .f32) (harg2 : arg2.IsWhole) (arg3 : Memref sig .tc .vmem S10x10 .f32) (harg3 : arg3.IsWhole) (arg4 : Memref sig .tc .vmem S1x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S10x1 .f32) (harg7 : arg7.IsWhole) (arg8 : Memref sig .tc .vmem S1x1 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S32x32 .f32) (harg11 : arg11.IsWhole) (arg12 : Memref sig .tc .vmem S32x512 .f32) (harg12 : arg12.IsWhole) (arg13 : Memref sig .tc .vmem S1836x512 .f32) (harg13 : arg13.IsWhole)
    (x0 : Vec F S32x3 .f32) (x1 : Vec F S1x27 .f32) (x2 : Vec F S1x1 .f32) (x3 : Vec F S10x10 .f32) (x4 : Vec F S1x10 .f32) (x5 : Vec F S10x10 .f32) (x6 : Vec F S1x10 .f32) (x7 : Vec F S10x1 .f32) (x8 : Vec F S1x1 .f32) (x9 : Vec F S512x512 .f32) (x10 : Vec F S1x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (out0_11 x0 x1 x2 x3 x4 x5 x6 x7 x8 x9 x10) ∗ owns (c : Thread nD τ) arg12 fullShare (out0_12 x0 x1 x2 x3 x4 x5 x6 x7 x8 x9 x10) ∗ owns (c : Thread nD τ) arg13 fullShare (out0_13 x0 x1 x2 x3 x4 x5 x6 x7 x8 x9 x10)) -∗ K ⟨⟩))
      ⊢ wp frame (wpE (defs₀ (F := F)) Variants.none c none) E (cc0__prep_body arg0 harg0 arg1 harg1 arg2 harg2 arg3 harg3 arg4 harg4 arg5 harg5 arg6 harg6 arg7 harg7 arg8 harg8 arg9 harg9 arg10 harg10 arg11 harg11 arg12 harg12 arg13 harg13) K := by
  simp only [cc0__prep_body_eq_skeleton]; unfold cc0__prep_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _)).trans ?_
    rfl
  iexists _; isplitr
  swap; · iexact H13
  ipureintro
  refine (View.read_writes_eq_canon _ _ _ (cover0_13 _)).trans ?_
  rfl

/-! ## The pipeline's proof data -/

/-- The proof data of pipeline 0 on core `c`: the arrays as the region finds them (`V`); after the body at
    point `t` each input's buffer at its block and each output's at `out0_W` of the input blocks; the invariant the
    class's (`ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨13, _⟩ => out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-! ## The body obligation, at a generic point -/

/-- What the body is called with at point `t` (`BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel0 c Set.univ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Hand

end
-- ==== Proof.IBody.lean ====
/- REGION 1 of the program, its body: the grid of 72 points whose first 64 multiply a block of 256 rows by the folded
   weights, mix it view by view and keep the positive part in a scratch buffer while adding up sums and sums of squares,
   and whose last 8 normalise 2048 rows of the scratch at a time. Three triples: the first point, a later multiplying
   point, a normalising point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pointwise.Index
public import Idealize.ShloMosaic.Lib.Ring
public import Idealize.ShloMosaic.Lib.Tactic
public import Idealize.ShloMosaic.Lib.WritesUnit
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The conditions and offsets of the body, as facts about the grid coordinate -/

theorem cond1_iff (i : grid1.Coords) : k1_cond1 i = 1#1 ↔ (i 0).val < 64 := by
  unfold k1_cond1; generalize i 0 = n; revert n; decide +kernel
theorem cond4_iff (i : grid1.Coords) : k1_cond4 i = 1#1 ↔ 64 ≤ (i 0).val := by
  unfold k1_cond4; generalize i 0 = n; revert n; decide +kernel
theorem off1_eq (i : grid1.Coords) (g : Fin 8) :
    k1_off1 i (BitVec.ofNat 32 (32 * g.val)) = ![256 * (i 0).val + 32 * g.val, 0] := by
  unfold k1_off1; generalize i 0 = n; revert g n; decide +kernel
theorem off2_eq (i : grid1.Coords) (h : k1_cond4 i = 1#1) : k1_off2 i = ![2048 * ((i 0).val - 64), 0] := by
  rw [cond4_iff] at h
  revert h; unfold k1_off2; generalize i 0 = n; revert n; decide +kernel

/-! ## What the body stores, from the input blocks -/

/-- The block of 32 rows that group `g` stores. -/
def payG (x0 : Vec F S256x1836 .bf16) (x1 : Vec F S1836x512 .bf16) (x2 : Vec F S32x32 .f32) (x3 : Vec F S32x512 .f32) :
    Fin 8 → Vec F S32x512 .f32
  | 0 => k1_pay15 x0 x1 x2 x3
  | 1 => k1_pay19 (k1_pay18 x0 x1 x2 x3)
  | 2 => k1_pay21 (k1_pay11 x0 x1) (k1_pay12 x2) (k1_pay13 x3)
  | 3 => k1_pay23 (k1_pay11 x0 x1) (k1_pay12 x2) (k1_pay13 x3)
  | 4 => k1_pay27 (k1_pay11 x0 x1) (k1_pay12 x2) (k1_pay13 x3)
  | 5 => k1_pay29 (k1_pay11 x0 x1) (k1_pay12 x2) (k1_pay13 x3)
  | 6 => k1_pay1 (k1_pay32 (k1_pay11 x0 x1) (k1_pay12 x2) (k1_pay13 x3))
  | 7 => k1_pay3 (k1_pay11 x0 x1) (k1_pay12 x2) (k1_pay13 x3)

/-- The running sum over the first seven groups, as the body hands it to the last store. -/
def part0 (x0 : Vec F S256x1836 .bf16) (x1 : Vec F S1836x512 .bf16) (x2 : Vec F S32x32 .f32) (x3 : Vec F S32x512 .f32) : FVec F S1x512 .f32 :=
  k1_pay30 (k1_pay11 x0 x1) (k1_pay12 x2) (k1_pay13 x3)
    (k1_pay24 (k1_pay11 x0 x1) (k1_pay12 x2) (k1_pay13 x3) (k1_pay16 x0 x1 x2 x3) (k1_pay18 x0 x1 x2 x3))
/-- The same of the squares. -/
def part1 (x0 : Vec F S256x1836 .bf16) (x1 : Vec F S1836x512 .bf16) (x2 : Vec F S32x32 .f32) (x3 : Vec F S32x512 .f32) : FVec F S1x512 .f32 :=
  k1_pay31 (k1_pay11 x0 x1) (k1_pay12 x2) (k1_pay13 x3)
    (k1_pay25 (k1_pay11 x0 x1) (k1_pay12 x2) (k1_pay13 x3) (k1_pay17 x0 x1 x2 x3) (k1_pay18 x0 x1 x2 x3))

/-- The first point's sum and sum of squares. -/
def init0 (x0 : Vec F S256x1836 .bf16) (x1 : Vec F S1836x512 .bf16) (x2 : Vec F S32x32 .f32) (x3 : Vec F S32x512 .f32) : Vec F S1x512 .f32 :=
  k1_pay6 (k1_pay11 x0 x1) (k1_pay12 x2) (k1_pay13 x3) (part0 x0 x1 x2 x3) (k1_pay32 (k1_pay11 x0 x1) (k1_pay12 x2) (k1_pay13 x3))
def init1 (x0 : Vec F S256x1836 .bf16) (x1 : Vec F S1836x512 .bf16) (x2 : Vec F S32x32 .f32) (x3 : Vec F S32x512 .f32) : Vec F S1x512 .f32 :=
  k1_pay7 (k1_pay11 x0 x1) (k1_pay12 x2) (k1_pay13 x3) (part1 x0 x1 x2 x3) (k1_pay32 (k1_pay11 x0 x1) (k1_pay12 x2) (k1_pay13 x3))
/-- A later point's, added to what was there. -/
def acc0 (x0 : Vec F S256x1836 .bf16) (x1 : Vec F S1836x512 .bf16) (x2 : Vec F S32x32 .f32) (x3 : Vec F S32x512 .f32) (a : Vec F S1x512 .f32) : Vec F S1x512 .f32 :=
  k1_pay8 (k1_pay11 x0 x1) (k1_pay12 x2) (k1_pay13 x3) (part0 x0 x1 x2 x3) (k1_pay32 (k1_pay11 x0 x1) (k1_pay12 x2) (k1_pay13 x3)) a
def acc1 (x0 : Vec F S256x1836 .bf16) (x1 : Vec F S1836x512 .bf16) (x2 : Vec F S32x32 .f32) (x3 : Vec F S32x512 .f32) (a : Vec F S1x512 .f32) : Vec F S1x512 .f32 :=
  k1_pay9 (k1_pay11 x0 x1) (k1_pay12 x2) (k1_pay13 x3) (part1 x0 x1 x2 x3) (k1_pay32 (k1_pay11 x0 x1) (k1_pay12 x2) (k1_pay13 x3)) a

/-- A two-row buffer from its rows. -/
def st2 (a b : Vec F S1x512 .f32) : Vec F S2x512 .f32 := fun y => if (y 0).val = 0 then a (ix2 0 (y 1)) else b (ix2 0 (y 1))

/-! ## The scratch buffer after a multiplying point -/

/-- The eight stores of a point, last first. -/
abbrev pcs (i : grid1.Coords) (h1 : k1_cond1 i = 1#1) (p : Fin 8 → Vec F S32x512 .f32) : List (View.Piece (Elt F) S16384x512 .f32) :=
  [⟨Rect.unit (s := S16384x512) (k1_off1 i 224#32) S32x512.size (k1_off1_inb i h1 7), p 7⟩,
   ⟨Rect.unit (s := S16384x512) (k1_off1 i 192#32) S32x512.size (k1_off1_inb i h1 6), p 6⟩,
   ⟨Rect.unit (s := S16384x512) (k1_off1 i 160#32) S32x512.size (k1_off1_inb i h1 5), p 5⟩,
   ⟨Rect.unit (s := S16384x512) (k1_off1 i 128#32) S32x512.size (k1_off1_inb i h1 4), p 4⟩,
   ⟨Rect.unit (s := S16384x512) (k1_off1 i 96#32) S32x512.size (k1_off1_inb i h1 3), p 3⟩,
   ⟨Rect.unit (s := S16384x512) (k1_off1 i 64#32) S32x512.size (k1_off1_inb i h1 2), p 2⟩,
   ⟨Rect.unit (s := S16384x512) (k1_off1 i 32#32) S32x512.size (k1_off1_inb i h1 1), p 1⟩,
   ⟨Rect.unit (s := S16384x512) (k1_off1 i 0#32) S32x512.size (k1_off1_inb i h1 0), p 0⟩]

section Scratch
variable {κ : Kind} {sp : Space} (v : View sig κ sp S16384x512 .f32) (f : v.ty.Contents (Elt F))

/-- A row of the point's block reads what its group stored. -/
theorem pcs_hit (i : grid1.Coords) (h1 : k1_cond1 i = 1#1) (p : Fin 8 → Vec F S32x512 .f32) (y : S16384x512.Idx) (g : Fin 8)
    (j : Fin 32) (hy : (y 0).val = 256 * (i 0).val + 32 * g.val + j.val) :
    v.read (Elt F) (v.writes (Elt F) f (pcs i h1 p)) y = p g (ix2 j (y 1)) := by
  have hj := j.isLt
  have o0 := off1_eq i 0
  have o1 := off1_eq i 1
  have o2 := off1_eq i 2
  have o3 := off1_eq i 3
  have o4 := off1_eq i 4
  have o5 := off1_eq i 5
  have o6 := off1_eq i 6
  have o7 := off1_eq i 7
  match g, hy with
  | 7, hy => exact View.read_writes_cons_rows_of_mem v f _ _ _ y (ix2 j (y 1)) o7 hy rfl
  | 6, hy =>
    refine (View.read_writes_cons_rows_of_not_mem v f _ _ _ y o7 rfl (.inl ?_)).trans ?_
    · simp at hy ⊢; omega
    exact View.read_writes_cons_rows_of_mem v f _ _ _ y (ix2 j (y 1)) o6 hy rfl
  | 5, hy =>
    refine (View.read_writes_cons_rows_of_not_mem v f _ _ _ y o7 rfl (.inl ?_)).trans ?_
    · simp at hy ⊢; omega
    refine (View.read_writes_cons_rows_of_not_mem v f _ _ _ y o6 rfl (.inl ?_)).trans ?_
    · simp at hy ⊢; omega
    exact View.read_writes_cons_rows_of_mem v f _ _ _ y (ix2 j (y 1)) o5 hy rfl
  | 4, hy =>
    refine (View.read_writes_cons_rows_of_not_mem v f _ _ _ y o7 rfl (.inl ?_)).trans ?_
    · simp at hy ⊢; omega
    refine (View.read_writes_cons_rows_of_not_mem v f _ _ _ y o6 rfl (.inl ?_)).trans ?_
    · simp at hy ⊢; omega
    refine (View.read_writes_cons_rows_of_not_mem v f _ _ _ y o5 rfl (.inl ?_)).trans ?_
    · simp at hy ⊢; omega
    exact View.read_writes_cons_rows_of_mem v f _ _ _ y (ix2 j (y 1)) o4 hy rfl
  | 3, hy =>
    refine (View.read_writes_cons_rows_of_not_mem v f _ _ _ y o7 rfl (.inl ?_)).trans ?_
    · simp at hy ⊢; omega
    refine (View.read_writes_cons_rows_of_not_mem v f _ _ _ y o6 rfl (.inl ?_)).trans ?_
    · simp at hy ⊢; omega
    refine (View.read_writes_cons_rows_of_not_mem v f _ _ _ y o5 rfl (.inl ?_)).trans ?_
    · simp at hy ⊢; omega
    refine (View.read_writes_cons_rows_of_not_mem v f _ _ _ y o4 rfl (.inl ?_)).trans ?_
    · simp at hy ⊢; omega
    exact View.read_writes_cons_rows_of_mem v f _ _ _ y (ix2 j (y 1)) o3 hy rfl
  | 2, hy =>
    refine (View.read_writes_cons_rows_of_not_mem v f _ _ _ y o7 rfl (.inl ?_)).trans ?_
    · simp at hy ⊢; omega
    refine (View.read_writes_cons_rows_of_not_mem v f _ _ _ y o6 rfl (.inl ?_)).trans ?_
    · simp at hy ⊢; omega
    refine (View.read_writes_cons_rows_of_not_mem v f _ _ _ y o5 rfl (.inl ?_)).trans ?_
    · simp at hy ⊢; omega
    refine (View.read_writes_cons_rows_of_not_mem v f _ _ _ y o4 rfl (.inl ?_)).trans ?_
    · simp at hy ⊢; omega
    refine (View.read_writes_cons_rows_of_not_mem v f _ _ _ y o3 rfl (.inl ?_)).trans ?_
    · simp at hy ⊢; omega
    exact View.read_writes_cons_rows_of_mem v f _ _ _ y (ix2 j (y 1)) o2 hy rfl
  | 1, hy =>
    refine (View.read_writes_cons_rows_of_not_mem v f _ _ _ y o7 rfl (.inl ?_)).trans ?_
    · simp at hy ⊢; omega
    refine (View.read_writes_cons_rows_of_not_mem v f _ _ _ y o6 rfl (.inl ?_)).trans ?_
    · simp at hy ⊢; omega
    refine (View.read_writes_cons_rows_of_not_mem v f _ _ _ y o5 rfl (.inl ?_)).trans ?_
    · simp at hy ⊢; omega
    refine (View.read_writes_cons_rows_of_not_mem v f _ _ _ y o4 rfl (.inl ?_)).trans ?_
    · simp at hy ⊢; omega
    refine (View.read_writes_cons_rows_of_not_mem v f _ _ _ y o3 rfl (.inl ?_)).trans ?_
    · simp at hy ⊢; omega
    refine (View.read_writes_cons_rows_of_not_mem v f _ _ _ y o2 rfl (.inl ?_)).trans ?_
    · simp at hy ⊢; omega
    exact View.read_writes_cons_rows_of_mem v f _ _ _ y (ix2 j (y 1)) o1 hy rfl
  | 0, hy =>
    refine (View.read_writes_cons_rows_of_not_mem v f _ _ _ y o7 rfl (.inl ?_)).trans ?_
    · simp at hy ⊢; omega
    refine (View.read_writes_cons_rows_of_not_mem v f _ _ _ y o6 rfl (.inl ?_)).trans ?_
    · simp at hy ⊢; omega
    refine (View.read_writes_cons_rows_of_not_mem v f _ _ _ y o5 rfl (.inl ?_)).trans ?_
    · simp at hy ⊢; omega
    refine (View.read_writes_cons_rows_of_not_mem v f _ _ _ y o4 rfl (.inl ?_)).trans ?_
    · simp at hy ⊢; omega
    refine (View.read_writes_cons_rows_of_not_mem v f _ _ _ y o3 rfl (.inl ?_)).trans ?_
    · simp at hy ⊢; omega
    refine (View.read_writes_cons_rows_of_not_mem v f _ _ _ y o2 rfl (.inl ?_)).trans ?_
    · simp at hy ⊢; omega
    refine (View.read_writes_cons_rows_of_not_mem v f _ _ _ y o1 rfl (.inl ?_)).trans ?_
    · simp at hy ⊢; omega
    exact View.read_writes_cons_rows_of_mem v f _ _ _ y (ix2 j (y 1)) o0 hy rfl
/-- A row outside the point's block keeps what it held. -/
theorem pcs_miss (i : grid1.Coords) (h1 : k1_cond1 i = 1#1) (p : Fin 8 → Vec F S32x512 .f32) (y : S16384x512.Idx)
    (hy : (y 0).val < 256 * (i 0).val ∨ 256 * (i 0).val + 256 ≤ (y 0).val) :
    v.read (Elt F) (v.writes (Elt F) f (pcs i h1 p)) y = v.read (Elt F) f y := by
  refine (View.read_writes_cons_rows_of_not_mem v f _ _ _ y (off1_eq i 7) rfl ?_).trans ?_
  · simp at hy ⊢; omega
  refine (View.read_writes_cons_rows_of_not_mem v f _ _ _ y (off1_eq i 6) rfl ?_).trans ?_
  · simp at hy ⊢; omega
  refine (View.read_writes_cons_rows_of_not_mem v f _ _ _ y (off1_eq i 5) rfl ?_).trans ?_
  · simp at hy ⊢; omega
  refine (View.read_writes_cons_rows_of_not_mem v f _ _ _ y (off1_eq i 4) rfl ?_).trans ?_
  · simp at hy ⊢; omega
  refine (View.read_writes_cons_rows_of_not_mem v f _ _ _ y (off1_eq i 3) rfl ?_).trans ?_
  · simp at hy ⊢; omega
  refine (View.read_writes_cons_rows_of_not_mem v f _ _ _ y (off1_eq i 2) rfl ?_).trans ?_
  · simp at hy ⊢; omega
  refine (View.read_writes_cons_rows_of_not_mem v f _ _ _ y (off1_eq i 1) rfl ?_).trans ?_
  · simp at hy ⊢; omega
  refine (View.read_writes_cons_rows_of_not_mem v f _ _ _ y (off1_eq i 0) rfl ?_).trans ?_
  · simp at hy ⊢; omega
  rfl
end Scratch

/-- The two stores of the running sums, read back. -/
theorem st2_writes {κ : Kind} {sp : Space} (v : View sig κ sp S2x512 .f32) (f : v.ty.Contents (Elt F)) (a b : Vec F S1x512 .f32) :
    v.read (Elt F) (v.writes (Elt F) f [⟨Rect.unit (s := S2x512) ![1, 0] S1x512.size inb_S2x512_S1x512_1_0, b⟩,
      ⟨Rect.unit (s := S2x512) ![0, 0] S1x512.size inb_S2x512_S1x512_0_0, a⟩]) = st2 a b := by
  funext y
  unfold st2
  have hlt : (y 0).val < 2 := (y 0).isLt
  by_cases h : (y 0).val = 0
  · rw [if_pos h]
    refine (View.read_writes_cons_rows_of_not_mem v f _ _ _ y rfl rfl (.inl (by omega))).trans ?_
    exact View.read_writes_cons_rows_of_mem v f _ _ _ y (ix2 0 (y 1)) rfl (by rw [h]; rfl) rfl
  · rw [if_neg h]
    exact View.read_writes_cons_rows_of_mem v f _ _ _ y (ix2 0 (y 1)) rfl (by simp; omega) rfl

theorem row1_eq (x : S1x512.Idx) : ix2 (n0 := 1) (n1 := 512) 0 (x 1) = x := by
  have h0 : x 0 = (0 : Fin 1) := Subsingleton.elim (α := Fin 1) _ _
  refine Eq.trans ?_ (ix2_eta (n0 := 1) (n1 := 512) x)
  exact congrArg (fun z => ix2 (n0 := 1) (n1 := 512) z (x 1)) h0.symm
theorem ld_st2_0 (a b : Vec F S1x512 .f32) : View.ld (Val := Elt F) (st2 a b) (Rect.unit (s := S2x512) ![0, 0] S1x512.size inb_S2x512_S1x512_0_0) = a := by
  refine funext fun (x : S1x512.Idx) => ?_
  have h0 : (x 0).val = 0 := by have : (x 0).val < 1 := (x 0).isLt; omega
  refine (if_pos (show 0 + 1 * (x 0).val = 0 by omega)).trans (congrArg a (Eq.trans (congrArg (ix2 (n0 := 1) (n1 := 512) 0) (Fin.ext ?_)) (row1_eq x)))
  show 0 + 1 * (x 1).val = (x 1).val
  omega
theorem ld_st2_1 (a b : Vec F S1x512 .f32) : View.ld (Val := Elt F) (st2 a b) (Rect.unit (s := S2x512) ![1, 0] S1x512.size inb_S2x512_S1x512_1_0) = b := by
  refine funext fun (x : S1x512.Idx) => ?_
  refine (if_neg (show ¬ (1 + 1 * (x 0).val = 0) by omega)).trans (congrArg b (Eq.trans (congrArg (ix2 (n0 := 1) (n1 := 512) 0) (Fin.ext ?_)) (row1_eq x)))
  show 0 + 1 * (x 1).val = (x 1).val
  omega

end Cert.KernelIdeal.Hand

end
-- ==== Proof.IMega.lean ====
/- REGION 1 of the program: the triples of its body, at the first point, at a later multiplying point and at a
   normalising point. -/
module

public import proofs.«01_k».proof.Proof.IBody
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pointwise.Index
public import Idealize.ShloMosaic.Lib.Ring
public import Idealize.ShloMosaic.Lib.Tactic
public import Idealize.ShloMosaic.Lib.WritesUnit
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The scratch buffer `f` with the 256 rows of point `n` replaced by the groups' blocks `p`. -/
def fNext (n : ℕ) (p : Fin 8 → Vec F S32x512 .f32) (f : Vec F S16384x512 .f32) : Vec F S16384x512 .f32 := fun y =>
  if 256 * n ≤ (y 0).val ∧ (y 0).val < 256 * n + 256 then
    p ⟨(y 0).val / 32 % 8, Nat.mod_lt _ (by decide)⟩ (ix2 ⟨(y 0).val % 32, Nat.mod_lt _ (by decide)⟩ (y 1))
  else f y

theorem fNext_writes {κ : Kind} {sp : Space} (v : View sig κ sp S16384x512 .f32) (f : v.ty.Contents (Elt F))
    (i : grid1.Coords) (h1 : k1_cond1 i = 1#1) (p : Fin 8 → Vec F S32x512 .f32) :
    v.read (Elt F) (v.writes (Elt F) f (pcs i h1 p)) = fNext (i 0).val p (v.read (Elt F) f) := by
  funext y
  unfold fNext
  by_cases h : 256 * (i 0).val ≤ (y 0).val ∧ (y 0).val < 256 * (i 0).val + 256
  · rw [if_pos h]
    exact pcs_hit v f i h1 p y _ _ (by simp only; omega)
  · rw [if_neg h]
    exact pcs_miss v f i h1 p y (by omega)

theorem fNext_writes_of {κ : Kind} {sp : Space} (v : View sig κ sp S16384x512 .f32) (f : v.ty.Contents (Elt F))
    (i : grid1.Coords) (h1 : k1_cond1 i = 1#1) (p : Fin 8 → Vec F S32x512 .f32) (q0 q1 q2 q3 q4 q5 q6 q7 : Vec F S32x512 .f32)
    (e0 : q0 = p 0) (e1 : q1 = p 1) (e2 : q2 = p 2) (e3 : q3 = p 3) (e4 : q4 = p 4) (e5 : q5 = p 5) (e6 : q6 = p 6) (e7 : q7 = p 7) :
    v.read (Elt F) (v.writes (Elt F) f
      [⟨Rect.unit (s := S16384x512) (k1_off1 i 224#32) S32x512.size (k1_off1_inb i h1 7), q7⟩,
       ⟨Rect.unit (s := S16384x512) (k1_off1 i 192#32) S32x512.size (k1_off1_inb i h1 6), q6⟩,
       ⟨Rect.unit (s := S16384x512) (k1_off1 i 160#32) S32x512.size (k1_off1_inb i h1 5), q5⟩,
       ⟨Rect.unit (s := S16384x512) (k1_off1 i 128#32) S32x512.size (k1_off1_inb i h1 4), q4⟩,
       ⟨Rect.unit (s := S16384x512) (k1_off1 i 96#32) S32x512.size (k1_off1_inb i h1 3), q3⟩,
       ⟨Rect.unit (s := S16384x512) (k1_off1 i 64#32) S32x512.size (k1_off1_inb i h1 2), q2⟩,
       ⟨Rect.unit (s := S16384x512) (k1_off1 i 32#32) S32x512.size (k1_off1_inb i h1 1), q1⟩,
       ⟨Rect.unit (s := S16384x512) (k1_off1 i 0#32) S32x512.size (k1_off1_inb i h1 0), q0⟩]) = fNext (i 0).val p (v.read (Elt F) f) := by
  subst e0 e1 e2 e3 e4 e5 e6 e7
  exact fNext_writes v f i h1 p

theorem st2_writes_of {κ : Kind} {sp : Space} (v : View sig κ sp S2x512 .f32) (f : v.ty.Contents (Elt F)) (a b a' b' : Vec F S1x512 .f32)
    (ea : a = a') (eb : b = b') :
    v.read (Elt F) (v.writes (Elt F) f [⟨Rect.unit (s := S2x512) ![1, 0] S1x512.size inb_S2x512_S1x512_1_0, b⟩,
      ⟨Rect.unit (s := S2x512) ![0, 0] S1x512.size inb_S2x512_S1x512_0_0, a⟩]) = st2 a' b' := by
  subst ea eb
  exact st2_writes v f a b

theorem ldA (x : Vec F S256x1836 .bf16) : View.ld (Val := Elt F) x (Rect.unit (s := S256x1836) ![0, 0] S256x1836.size inb_S256x1836_S256x1836_0_0) = x :=
  View.ld_unit_zero (by funext a; fin_cases a <;> rfl) ..
theorem ldB (x : Vec F S1836x512 .bf16) : View.ld (Val := Elt F) x (Rect.unit (s := S1836x512) ![0, 0] S1836x512.size inb_S1836x512_S1836x512_0_0) = x :=
  View.ld_unit_zero (by funext a; fin_cases a <;> rfl) ..
theorem ldC (x : Vec F S32x32 .f32) : View.ld (Val := Elt F) x (Rect.unit (s := S32x32) ![0, 0] S32x32.size inb_S32x32_S32x32_0_0) = x :=
  View.ld_unit_zero (by funext a; fin_cases a <;> rfl) ..
theorem ldD (x : Vec F S32x512 .f32) : View.ld (Val := Elt F) x (Rect.unit (s := S32x512) ![0, 0] S32x512.size inb_S32x512_S32x512_0_0) = x :=
  View.ld_unit_zero (by funext a; fin_cases a <;> rfl) ..
theorem ldE (x : Vec F S1x512 .f32) : View.ld (Val := Elt F) x (Rect.unit (s := S1x512) ![0, 0] S1x512.size inb_S1x512_S1x512_0_0) = x :=
  View.ld_unit_zero (by funext a; fin_cases a <;> rfl) ..

set_option maxHeartbeats 400000 in
/-- The first point. -/
theorem run_first (c : Dev nD) (E : Set ℕ) (i : grid1.Coords) (h1 : k1_cond1 i = 1#1) (h4 : ¬ k1_cond4 i = 1#1) (hz : (i 0).val = 0)
    (arg1 : Memref sig .tc .vmem S256x1836 .bf16) (harg1 : arg1.IsWhole) (arg2 : Memref sig .tc .vmem S1836x512 .bf16) (harg2 : arg2.IsWhole) (arg3 : Memref sig .tc .vmem S32x32 .f32) (harg3 : arg3.IsWhole) (arg4 : Memref sig .tc .vmem S32x512 .f32) (harg4 : arg4.IsWhole)
    (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole)
    (arg8 : Memref sig .tc .vmem S16384x512 .f32) (harg8 : arg8.IsWhole) (arg9 : Memref sig .tc .vmem S2x512 .f32) (harg9 : arg9.IsWhole)
    (x0 : Vec F S256x1836 .bf16) (x1 : Vec F S1836x512 .bf16) (x2 : Vec F S32x32 .f32) (x3 : Vec F S32x512 .f32)
    (y8 : Vec F S16384x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg8 fullShare y8 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg8 fullShare (fNext (i 0).val (payG x0 x1 x2 x3) y8) ∗ owns (c : Thread nD τ) arg9 fullShare (st2 (init0 x0 x1 x2 x3) (init1 x0 x1 x2 x3))) -∗ K ⟨⟩))
      ⊢ wp frame (wpE (defs₀ (F := F)) Variants.none c none) E (cc1__mega_body i arg1 harg1 arg2 harg2 arg3 harg3 arg4 harg4 arg5 harg5 arg6 harg6 arg7 harg7 arg8 harg8 arg9 harg9) K := by
  have h2 : Scalar.cmpi .ne (Scalar.extui (Scalar.cmpi .eq (BitVec.ofNat 32 (i 0).val) 0#32) : BitVec 32) 0#32 = 1#1 := by
    rw [hz]; decide
  have h3 : ¬ Scalar.cmpi .ne (Scalar.extui (Scalar.cmpi .sgt (BitVec.ofNat 32 (i 0).val) 0#32) : BitVec 32) 0#32 = 1#1 := by
    rw [hz]; decide
  simp only [cc1__mega_body_eq_skeleton, k1_part1_eq_skeleton, k1_part2_eq_skeleton, k1_part3_eq_skeleton]
  unfold cc1__mega_body_skel
  unfold owns
  iintro ⟨⟨%f0, %hf0, H0⟩, ⟨%f1, %hf1, H1⟩, ⟨%f2, %hf2, H2⟩, ⟨%f3, %hf3, H3⟩, ⟨%f8, %hf8, H8⟩, ⟨%d9, %f9, -, H9⟩, Hk⟩
  subst hf0 hf1 hf2 hf3 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H8]
  · iexists _; isplitr
    swap; · iexact H8
    ipureintro
    refine fNext_writes_of arg8.view f8 i h1 _ _ _ _ _ _ _ _ _ ?_ ?_ ?_ ?_ ?_ ?_ ?_ ?_
    · rw [← ldA (arg1.view.read (Elt F) f0), ← ldB (arg2.view.read (Elt F) f1), ← ldC (arg3.view.read (Elt F) f2), ← ldD (arg4.view.read (Elt F) f3)]; rfl
    · rw [← ldA (arg1.view.read (Elt F) f0), ← ldB (arg2.view.read (Elt F) f1), ← ldC (arg3.view.read (Elt F) f2), ← ldD (arg4.view.read (Elt F) f3)]; rfl
    · rw [← ldA (arg1.view.read (Elt F) f0), ← ldB (arg2.view.read (Elt F) f1), ← ldC (arg3.view.read (Elt F) f2), ← ldD (arg4.view.read (Elt F) f3)]; rfl
    · rw [← ldA (arg1.view.read (Elt F) f0), ← ldB (arg2.view.read (Elt F) f1), ← ldC (arg3.view.read (Elt F) f2), ← ldD (arg4.view.read (Elt F) f3)]; rfl
    · rw [← ldA (arg1.view.read (Elt F) f0), ← ldB (arg2.view.read (Elt F) f1), ← ldC (arg3.view.read (Elt F) f2), ← ldD (arg4.view.read (Elt F) f3)]; rfl
    · rw [← ldA (arg1.view.read (Elt F) f0), ← ldB (arg2.view.read (Elt F) f1), ← ldC (arg3.view.read (Elt F) f2), ← ldD (arg4.view.read (Elt F) f3)]; rfl
    · rw [← ldA (arg1.view.read (Elt F) f0), ← ldB (arg2.view.read (Elt F) f1), ← ldC (arg3.view.read (Elt F) f2), ← ldD (arg4.view.read (Elt F) f3)]; rfl
    · rw [← ldA (arg1.view.read (Elt F) f0), ← ldB (arg2.view.read (Elt F) f1), ← ldC (arg3.view.read (Elt F) f2), ← ldD (arg4.view.read (Elt F) f3)]; rfl
  iexists _; isplitr
  swap; · iexact H9
  ipureintro
  rw [← ldA (arg1.view.read (Elt F) f0), ← ldB (arg2.view.read (Elt F) f1), ← ldC (arg3.view.read (Elt F) f2), ← ldD (arg4.view.read (Elt F) f3)]
  refine st2_writes_of arg9.view f9 _ _ _ _ ?_ ?_
  · rfl
  · rfl

set_option maxHeartbeats 400000 in
/-- A later multiplying point. -/
theorem run_next (c : Dev nD) (E : Set ℕ) (i : grid1.Coords) (h1 : k1_cond1 i = 1#1) (h4 : ¬ k1_cond4 i = 1#1) (hz : (i 0).val ≠ 0)
    (arg1 : Memref sig .tc .vmem S256x1836 .bf16) (harg1 : arg1.IsWhole) (arg2 : Memref sig .tc .vmem S1836x512 .bf16) (harg2 : arg2.IsWhole) (arg3 : Memref sig .tc .vmem S32x32 .f32) (harg3 : arg3.IsWhole) (arg4 : Memref sig .tc .vmem S32x512 .f32) (harg4 : arg4.IsWhole)
    (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole)
    (arg8 : Memref sig .tc .vmem S16384x512 .f32) (harg8 : arg8.IsWhole) (arg9 : Memref sig .tc .vmem S2x512 .f32) (harg9 : arg9.IsWhole)
    (x0 : Vec F S256x1836 .bf16) (x1 : Vec F S1836x512 .bf16) (x2 : Vec F S32x32 .f32) (x3 : Vec F S32x512 .f32)
    (y8 : Vec F S16384x512 .f32) (a b : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg8 fullShare y8 ∗ owns (c : Thread nD τ) arg9 fullShare (st2 a b)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg8 fullShare (fNext (i 0).val (payG x0 x1 x2 x3) y8) ∗ owns (c : Thread nD τ) arg9 fullShare (st2 (acc0 x0 x1 x2 x3 a) (acc1 x0 x1 x2 x3 b))) -∗ K ⟨⟩))
      ⊢ wp frame (wpE (defs₀ (F := F)) Variants.none c none) E (cc1__mega_body i arg1 harg1 arg2 harg2 arg3 harg3 arg4 harg4 arg5 harg5 arg6 harg6 arg7 harg7 arg8 harg8 arg9 harg9) K := by
  have h2 : ¬ Scalar.cmpi .ne (Scalar.extui (Scalar.cmpi .eq (BitVec.ofNat 32 (i 0).val) 0#32) : BitVec 32) 0#32 = 1#1 := by
    clear h1 h4; generalize i 0 = n at hz ⊢; revert n; decide +kernel
  have h3 : Scalar.cmpi .ne (Scalar.extui (Scalar.cmpi .sgt (BitVec.ofNat 32 (i 0).val) 0#32) : BitVec 32) 0#32 = 1#1 := by
    clear h1 h4 h2; generalize i 0 = n at hz ⊢; revert n; decide +kernel
  simp only [cc1__mega_body_eq_skeleton, k1_part1_eq_skeleton, k1_part2_eq_skeleton, k1_part3_eq_skeleton]
  unfold cc1__mega_body_skel
  unfold owns
  iintro ⟨⟨%f0, %hf0, H0⟩, ⟨%f1, %hf1, H1⟩, ⟨%f2, %hf2, H2⟩, ⟨%f3, %hf3, H3⟩, ⟨%f8, %hf8, H8⟩, ⟨%f9, %hf9, H9⟩, Hk⟩
  subst hf0 hf1 hf2 hf3 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H8]
  · iexists _; isplitr
    swap; · iexact H8
    ipureintro
    refine fNext_writes_of arg8.view f8 i h1 _ _ _ _ _ _ _ _ _ ?_ ?_ ?_ ?_ ?_ ?_ ?_ ?_
    · rw [← ldA (arg1.view.read (Elt F) f0), ← ldB (arg2.view.read (Elt F) f1), ← ldC (arg3.view.read (Elt F) f2), ← ldD (arg4.view.read (Elt F) f3)]; rfl
    · rw [← ldA (arg1.view.read (Elt F) f0), ← ldB (arg2.view.read (Elt F) f1), ← ldC (arg3.view.read (Elt F) f2), ← ldD (arg4.view.read (Elt F) f3)]; rfl
    · rw [← ldA (arg1.view.read (Elt F) f0), ← ldB (arg2.view.read (Elt F) f1), ← ldC (arg3.view.read (Elt F) f2), ← ldD (arg4.view.read (Elt F) f3)]; rfl
    · rw [← ldA (arg1.view.read (Elt F) f0), ← ldB (arg2.view.read (Elt F) f1), ← ldC (arg3.view.read (Elt F) f2), ← ldD (arg4.view.read (Elt F) f3)]; rfl
    · rw [← ldA (arg1.view.read (Elt F) f0), ← ldB (arg2.view.read (Elt F) f1), ← ldC (arg3.view.read (Elt F) f2), ← ldD (arg4.view.read (Elt F) f3)]; rfl
    · rw [← ldA (arg1.view.read (Elt F) f0), ← ldB (arg2.view.read (Elt F) f1), ← ldC (arg3.view.read (Elt F) f2), ← ldD (arg4.view.read (Elt F) f3)]; rfl
    · rw [← ldA (arg1.view.read (Elt F) f0), ← ldB (arg2.view.read (Elt F) f1), ← ldC (arg3.view.read (Elt F) f2), ← ldD (arg4.view.read (Elt F) f3)]; rfl
    · rw [← ldA (arg1.view.read (Elt F) f0), ← ldB (arg2.view.read (Elt F) f1), ← ldC (arg3.view.read (Elt F) f2), ← ldD (arg4.view.read (Elt F) f3)]; rfl
  iexists _; isplitr
  swap; · iexact H9
  ipureintro
  rw [← ldA (arg1.view.read (Elt F) f0), ← ldB (arg2.view.read (Elt F) f1), ← ldC (arg3.view.read (Elt F) f2), ← ldD (arg4.view.read (Elt F) f3)]
  refine st2_writes_of arg9.view f9 _ _ _ _ (.trans ?_ (congrArg (acc0 _ _ _ _) ((congrArg (fun x => View.ld x _) hf9).trans (ld_st2_0 a b)))) (.trans ?_ (congrArg (acc1 _ _ _ _) ((congrArg (fun x => View.ld x _) hf9).trans (ld_st2_1 a b))))
  · rfl
  · rfl

set_option maxHeartbeats 400000 in
/-- A normalising point. -/
theorem run_last (c : Dev nD) (E : Set ℕ) (i : grid1.Coords) (h1 : ¬ k1_cond1 i = 1#1) (h4 : k1_cond4 i = 1#1)
    (arg1 : Memref sig .tc .vmem S256x1836 .bf16) (harg1 : arg1.IsWhole) (arg2 : Memref sig .tc .vmem S1836x512 .bf16) (harg2 : arg2.IsWhole) (arg3 : Memref sig .tc .vmem S32x32 .f32) (harg3 : arg3.IsWhole) (arg4 : Memref sig .tc .vmem S32x512 .f32) (harg4 : arg4.IsWhole)
    (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole)
    (arg8 : Memref sig .tc .vmem S16384x512 .f32) (harg8 : arg8.IsWhole) (arg9 : Memref sig .tc .vmem S2x512 .f32) (harg9 : arg9.IsWhole)
    (x4 : Vec F S1x512 .f32) (x5 : Vec F S1x512 .f32)
    (y8 : Vec F S16384x512 .f32) (a b : Vec F S1x512 .f32) (K : PUnit → sProp 𝕄) :
    iprop(owns (c : Thread nD τ) arg5 fullShare x4 ∗ owns (c : Thread nD τ) arg6 fullShare x5 ∗ (∃ d, owns (c : Thread nD τ) arg7 fullShare d) ∗ owns (c : Thread nD τ) arg8 fullShare y8 ∗ owns (c : Thread nD τ) arg9 fullShare (st2 a b)
        ∗ (iprop(owns (c : Thread nD τ) arg5 fullShare x4 ∗ owns (c : Thread nD τ) arg6 fullShare x5 ∗ owns (c : Thread nD τ) arg7 fullShare (k1_pay10 a b x4 x5 (View.ld y8 (Rect.unit (s := S16384x512) (k1_off2 i) S2048x512.size (k1_off2_inb i h4)))) ∗ owns (c : Thread nD τ) arg8 fullShare y8 ∗ owns (c : Thread nD τ) arg9 fullShare (st2 a b)) -∗ K ⟨⟩))
      ⊢ wp frame (wpE (defs₀ (F := F)) Variants.none c none) E (cc1__mega_body i arg1 harg1 arg2 harg2 arg3 harg3 arg4 harg4 arg5 harg5 arg6 harg6 arg7 harg7 arg8 harg8 arg9 harg9) K := by
  simp only [cc1__mega_body_eq_skeleton]
  unfold cc1__mega_body_skel
  unfold owns
  iintro ⟨⟨%f4, %hf4, H4⟩, ⟨%f5, %hf5, H5⟩, ⟨%d6, %f6, -, H6⟩, ⟨%f8, %hf8, H8⟩, ⟨%f9, %hf9, H9⟩, Hk⟩
  subst hf4 hf5 hf8
  sl_exec
  sl_step
  iapply Hk
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (View.cover_of_tiled [⟨Rect.unit (s := S2048x512) ![0, 0] S2048x512.size inb_S2048x512_S2048x512_0_0, _⟩] S2048x512.size (by rfl))).trans ?_
    rw [View.canon_unit_zero (by funext a; fin_cases a <;> rfl)]
    rw [View.readAt_eq_ld, View.readAt_eq_ld, View.readAt_eq_ld, View.readAt_eq_ld, View.readAt_eq_ld]
    rw [hf9, ld_st2_0, ld_st2_1, ldE, ldE]
  isplitl [H8]
  · iexists f8; isplitr; · ipureintro; rfl
    iexact H8
  iexists f9; isplitr; · ipureintro; exact hf9
  iexact H9

end Cert.KernelIdeal.Hand

end
-- ==== Proof.IRegion1.lean ====
/- REGION 1 of the program: what its loop carries from point to point, and its body obligation. -/
module

public import proofs.«01_k».proof.Proof.IMega
public import proofs.«01_k».proof.Proof.Gen.KernelIdeal.Launch
public import Idealize.ShloMosaic.Lib.Pipeline.RegionsLoop
public import Idealize.ShloMosaic.Lib.Pipeline.FrameSuffix
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pointwise.Index
public import Idealize.ShloMosaic.Lib.Ring
public import Idealize.ShloMosaic.Lib.Tactic
public import Idealize.ShloMosaic.Lib.WritesUnit
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions

variable (V : ∀ (c : Dev nD) (b : Ref sig .tc), Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What the loop carries -/

theorem coord_val (t : Fin cfg1.N) : ((grid1.coords t) 0).val = t.val :=
  (by decide +kernel : ∀ t : Fin grid1.N, ((grid1.coords t) 0).val = t.val) t

/-- The point with number `n`. -/
def pt (n : ℕ) : Fin cfg1.N := ⟨n % 72, by show n % 72 < grid1.N; rw [N_1]; exact Nat.mod_lt _ (by decide)⟩

theorem pt_val (t : Fin cfg1.N) : pt t.val = t := Fin.ext (Nat.mod_eq_of_lt (by have h : t.val < grid1.N := t.isLt; rw [N_1] at h; exact h))

/-- The eight blocks that point `t` stores. -/
def FB (c : Dev nD) (t : Fin cfg1.N) : Fin 8 → Vec F S32x512 .f32 := payG (iblk1 V c 0 t) (iblk1 V c 1 t) (iblk1 V c 2 t) (iblk1 V c 3 t)

/-- What the scratch buffer holds after all 64 multiplying points. -/
def FF (c : Dev nD) : Vec F S16384x512 .f32 := fun y =>
  FB V c (pt ((y 0).val / 256)) ⟨(y 0).val / 32 % 8, Nat.mod_lt _ (by decide)⟩ (ix2 ⟨(y 0).val % 32, Nat.mod_lt _ (by decide)⟩ (y 1))

/-- The running sums after point `n`. -/
def SA (c : Dev nD) : ℕ → Vec F S1x512 .f32
  | 0 => let t := pt 0; init0 (iblk1 V c 0 t) (iblk1 V c 1 t) (iblk1 V c 2 t) (iblk1 V c 3 t)
  | n + 1 => let t := pt (n + 1); acc0 (iblk1 V c 0 t) (iblk1 V c 1 t) (iblk1 V c 2 t) (iblk1 V c 3 t) (SA c n)
/-- The running sums of squares after point `n`. -/
def SB (c : Dev nD) : ℕ → Vec F S1x512 .f32
  | 0 => let t := pt 0; init1 (iblk1 V c 0 t) (iblk1 V c 1 t) (iblk1 V c 2 t) (iblk1 V c 3 t)
  | n + 1 => let t := pt (n + 1); acc1 (iblk1 V c 0 t) (iblk1 V c 1 t) (iblk1 V c 2 t) (iblk1 V c 3 t) (SB c n)

/-- The 2048 rows of the scratch buffer that point `n` normalises. -/
def FR (c : Dev nD) (n : ℕ) : Vec F S2048x512 .f32 := fun x =>
  FF V c (ix2 ⟨(2048 * (n - 64) + (x 0).val) % 16384, Nat.mod_lt _ (by decide)⟩ (x 1))

/-- What a normalising point stores. -/
def outA (c : Dev nD) (t : Fin cfg1.N) : Vec F S2048x512 .f32 :=
  k1_pay10 (SA V c 63) (SB V c 63) (iblk1 V c 4 t) (iblk1 V c 5 t) (FR V c t.val)

/-- The other call's staging buffers, untouched here. -/
def Rest1 (c : Dev nD) : sProp 𝕄 :=
  iprop((∃ g : Buf (Elt F) ((c : Thread nD τ).loc cc0_stg0_0), ((c : Thread nD τ).loc cc0_stg0_0) ↦{fullShare} g)
      ∗ (∃ g : Buf (Elt F) ((c : Thread nD τ).loc cc0_stg1_0), ((c : Thread nD τ).loc cc0_stg1_0) ↦{fullShare} g)
      ∗ (∃ g : Buf (Elt F) ((c : Thread nD τ).loc cc0_stg2_0), ((c : Thread nD τ).loc cc0_stg2_0) ↦{fullShare} g)
      ∗ (∃ g : Buf (Elt F) ((c : Thread nD τ).loc cc0_stg3_0), ((c : Thread nD τ).loc cc0_stg3_0) ↦{fullShare} g)
      ∗ (∃ g : Buf (Elt F) ((c : Thread nD τ).loc cc0_stg4_0), ((c : Thread nD τ).loc cc0_stg4_0) ↦{fullShare} g)
      ∗ (∃ g : Buf (Elt F) ((c : Thread nD τ).loc cc0_stg5_0), ((c : Thread nD τ).loc cc0_stg5_0) ↦{fullShare} g)
      ∗ (∃ g : Buf (Elt F) ((c : Thread nD τ).loc cc0_stg6_0), ((c : Thread nD τ).loc cc0_stg6_0) ↦{fullShare} g)
      ∗ (∃ g : Buf (Elt F) ((c : Thread nD τ).loc cc0_stg7_0), ((c : Thread nD τ).loc cc0_stg7_0) ↦{fullShare} g)
      ∗ (∃ g : Buf (Elt F) ((c : Thread nD τ).loc cc0_stg8_0), ((c : Thread nD τ).loc cc0_stg8_0) ↦{fullShare} g)
      ∗ (∃ g : Buf (Elt F) ((c : Thread nD τ).loc cc0_stg9_0), ((c : Thread nD τ).loc cc0_stg9_0) ↦{fullShare} g)
      ∗ (∃ g : Buf (Elt F) ((c : Thread nD τ).loc cc0_stg10_0), ((c : Thread nD τ).loc cc0_stg10_0) ↦{fullShare} g)
      ∗ (∃ g : Buf (Elt F) ((c : Thread nD τ).loc cc0_stg11_0), ((c : Thread nD τ).loc cc0_stg11_0) ↦{fullShare} g)
      ∗ (∃ g : Buf (Elt F) ((c : Thread nD τ).loc cc0_stg12_0), ((c : Thread nD τ).loc cc0_stg12_0) ↦{fullShare} g)
      ∗ (∃ g : Buf (Elt F) ((c : Thread nD τ).loc cc0_stg13_0), ((c : Thread nD τ).loc cc0_stg13_0) ↦{fullShare} g))

/-- The invariant before point `k`: the rows stored so far, the running sums, and everything else at anything. -/
def Φ1 (c : Dev nD) (k : ℕ) : sProp 𝕄 :=
  iprop(∃ (f : Vec F S16384x512 .f32) (s : Vec F S2x512 .f32),
    ⌜∀ y : S16384x512.Idx, (y 0).val < 256 * min k 64 → f y = FF V c y⌝
    ∗ ⌜0 < k → s = st2 (SA V c (min (k - 1) 63)) (SB V c (min (k - 1) 63))⌝
    ∗ owns (c : Thread nD τ) (Memref.whole cc1_scratch0) fullShare f ∗ owns (c : Thread nD τ) (Memref.whole cc1_scratch1) fullShare s
    ∗ Rest1 c ∗ (∃ r, prngReg c r))

/-- The proof data of the pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outA V c t
  Φ t := Φ1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outA V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The carried facts, step by step -/

/-- A multiplying point extends the rows stored. -/
theorem step_rows (c : Dev nD) (t : Fin cfg1.N) (ht : t.val < 64) (f : Vec F S16384x512 .f32)
    (hf : ∀ y : S16384x512.Idx, (y 0).val < 256 * min t.val 64 → f y = FF V c y) (y : S16384x512.Idx)
    (hy : (y 0).val < 256 * min (t.val + 1) 64) : fNext t.val (FB V c t) f y = FF V c y := by
  rw [show min (t.val + 1) 64 = t.val + 1 by omega] at hy
  rw [show min t.val 64 = t.val by omega] at hf
  unfold fNext
  split
  · next h =>
    unfold FF
    rw [show (y 0).val / 256 = t.val by omega, pt_val]
  · next h => exact hf y (by omega)

/-- The rows a normalising point reads. -/
theorem ld_rows (c : Dev nD) (t : Fin cfg1.N) (h4 : k1_cond4 (grid1.coords t) = 1#1) (f : Vec F S16384x512 .f32)
    (hf : ∀ y : S16384x512.Idx, (y 0).val < 256 * min t.val 64 → f y = FF V c y) :
    View.ld (Val := Elt F) f (Rect.unit (s := S16384x512) (k1_off2 (grid1.coords t)) S2048x512.size (k1_off2_inb (grid1.coords t) h4)) = FR V c t.val := by
  have ht : 64 ≤ t.val := by rw [← coord_val t]; exact (cond4_iff _).1 h4
  have hN : t.val < 72 := by have h : t.val < grid1.N := t.isLt; rw [N_1] at h; exact h
  refine funext fun (x : S2048x512.Idx) => ?_
  have hx : (x 0).val < 2048 := (x 0).isLt
  have hoff := off2_eq (grid1.coords t) h4
  rw [coord_val] at hoff
  have e0 : ((Rect.unit (s := S16384x512) (k1_off2 (grid1.coords t)) S2048x512.size (k1_off2_inb (grid1.coords t) h4)).idx x 0).val = 2048 * (t.val - 64) + (x 0).val := by
    show k1_off2 (grid1.coords t) 0 + 1 * (x 0).val = _
    rw [hoff]; simp
  have e1 : ((Rect.unit (s := S16384x512) (k1_off2 (grid1.coords t)) S2048x512.size (k1_off2_inb (grid1.coords t) h4)).idx x 1).val = (x 1).val := by
    show k1_off2 (grid1.coords t) 1 + 1 * (x 1).val = _
    rw [hoff]; simp
  refine (hf _ (by rw [e0]; omega)).trans ?_
  unfold FR
  refine congrArg (FF V c) ?_
  refine (eq_ix2 (n0 := 16384) (n1 := 512) _).trans ?_
  refine congr (congrArg (ix2 (n0 := 16384) (n1 := 512)) (Fin.ext ?_)) (Fin.ext e1)
  rw [e0]; show _ = (2048 * (t.val - 64) + (x 0).val) % 16384
  exact (Nat.mod_eq_of_lt (by omega)).symm

theorem SA_step (c : Dev nD) (t : Fin cfg1.N) (ht : t.val ≠ 0) : SA V c t.val = acc0 (iblk1 V c 0 t) (iblk1 V c 1 t) (iblk1 V c 2 t) (iblk1 V c 3 t) (SA V c (t.val - 1)) := by
  obtain ⟨n, hn⟩ := Nat.exists_eq_succ_of_ne_zero ht
  have hp := pt_val t
  rw [hn] at hp ⊢
  show acc0 (iblk1 V c 0 (pt (n + 1))) (iblk1 V c 1 (pt (n + 1))) (iblk1 V c 2 (pt (n + 1))) (iblk1 V c 3 (pt (n + 1))) (SA V c n) = _
  rw [show pt (n + 1) = t from hp]; rfl
theorem SB_step (c : Dev nD) (t : Fin cfg1.N) (ht : t.val ≠ 0) : SB V c t.val = acc1 (iblk1 V c 0 t) (iblk1 V c 1 t) (iblk1 V c 2 t) (iblk1 V c 3 t) (SB V c (t.val - 1)) := by
  obtain ⟨n, hn⟩ := Nat.exists_eq_succ_of_ne_zero ht
  have hp := pt_val t
  rw [hn] at hp ⊢
  show acc1 (iblk1 V c 0 (pt (n + 1))) (iblk1 V c 1 (pt (n + 1))) (iblk1 V c 2 (pt (n + 1))) (iblk1 V c 3 (pt (n + 1))) (SB V c n) = _
  rw [show pt (n + 1) = t from hp]; rfl
theorem SA_zero (c : Dev nD) (t : Fin cfg1.N) (ht : t.val = 0) : SA V c 0 = init0 (iblk1 V c 0 t) (iblk1 V c 1 t) (iblk1 V c 2 t) (iblk1 V c 3 t) := by
  have hp := pt_val t
  rw [ht] at hp
  show init0 (iblk1 V c 0 (pt 0)) (iblk1 V c 1 (pt 0)) (iblk1 V c 2 (pt 0)) (iblk1 V c 3 (pt 0)) = _
  rw [hp]
theorem SB_zero (c : Dev nD) (t : Fin cfg1.N) (ht : t.val = 0) : SB V c 0 = init1 (iblk1 V c 0 t) (iblk1 V c 1 t) (iblk1 V c 2 t) (iblk1 V c 3 t) := by
  have hp := pt_val t
  rw [ht] at hp
  show init1 (iblk1 V c 0 (pt 0)) (iblk1 V c 1 (pt 0)) (iblk1 V c 2 (pt 0)) (iblk1 V c 3 (pt 0)) = _
  rw [hp]

/-! ## The output window: idle at the multiplying points, stored and written back at the others -/

theorem idle_6 (t : Fin cfg1.N) (ht : t.val < 64) : cfg1.idle 6 (cfg1.grid.coords t) = true := by
  show (!(k1_cond4 (grid1.coords t) == 1#1)) = true
  have h := (cond4_iff (grid1.coords t)).not.2 (by rw [coord_val]; omega)
  simpa using h
theorem live_6 (t : Fin cfg1.N) (ht : 64 ≤ t.val) : cfg1.idle 6 (cfg1.grid.coords t) = false := by
  show (!(k1_cond4 (grid1.coords t) == 1#1)) = false
  have h := (cond4_iff (grid1.coords t)).2 (by rw [coord_val]; omega)
  simpa using h
theorem noflush_6 (t : Fin cfg1.N) (ht : t.val < 64) : (cfg1.win 6).flush t = false :=
  (by decide +kernel : ∀ t : Fin grid1.N, t.val < 64 → (cfg1.win 6).flush t = false) t ht

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ (dat1 V c).leaves 6 t)

theorem leaves_6_idle (c : Dev nD) (t : Fin cfg1.N) (ht : t.val < 64) :
    (dat1 V c).leaves 6 t = iprop(∃ d, owns (c : Thread nD τ) (st1_6 t) fullShare ((dat1 V c).before 6 t d)) :=
  Dat.leaves_idle (dat1 V c) 6 t (idle_6 t ht) (noflush_6 t ht)
theorem leaves_6_live (c : Dev nD) (t : Fin cfg1.N) (ht : 64 ≤ t.val) :
    (dat1 V c).leaves 6 t = owns (c : Thread nD τ) (st1_6 t) fullShare ((dat1 V c).after 6 t) := by
  unfold Dat.leaves; rw [live_6 t ht]

theorem sound_body1 (c : Dev nD) (t : Fin cfg1.N) :
    bodyPre1 V c t ⊢ wp frame (wpE (defs₀ (F := F)) Variants.none c none) Set.univ (bodyAt1 t) (fun _ => bodyPost1 V c t) := by
  have hN : t.val < 72 := by have h : t.val < grid1.N := t.isLt; rw [N_1] at h; exact h
  unfold bodyPre1 bodyPost1 bodyAt1
  rw [show (dat1 V c).Φ t.succ = Φ1 V c (t.val + 1) from rfl, show (dat1 V c).Φ t.castSucc = Φ1 V c t.val from rfl,
    show (dat1 V c).owesAt () t.succ = (dat1 V c).owesAt () t.castSucc from rfl]
  by_cases ht : t.val < 64
  · have h1 : k1_cond1 (grid1.coords t) = 1#1 := (cond1_iff _).2 (by rw [coord_val]; exact ht)
    have h4 : ¬ k1_cond4 (grid1.coords t) = 1#1 := (cond4_iff _).not.2 (by rw [coord_val]; omega)
    rw [leaves_6_idle V c t ht, after1_0, after1_1, after1_2, after1_3, after1_4, after1_5]
    simp only [before1_0, before1_1, before1_2, before1_3, before1_4, before1_5]
    unfold Φ1
    iintro ⟨⟨%f, %s, %hf, %hs, Hf, Hs, HR, Hp⟩, Ho, ⟨%d0, H0⟩, ⟨%d1, H1⟩, ⟨%d2, H2⟩, ⟨%d3, H3⟩, ⟨%d4, H4⟩, ⟨%d5, H5⟩, H6⟩
    by_cases hz : t.val = 0
    · iapply (run_first c Set.univ (grid1.coords t) h1 h4 (by rw [coord_val]; exact hz) _ _ _ _ _ _ _ _ _ _ _ _ _ _ _ _ _ _ (iblk1 V c 0 t) (iblk1 V c 1 t) (iblk1 V c 2 t) (iblk1 V c 3 t) f _)
      isplitl [H0]; · iexact H0
      isplitl [H1]; · iexact H1
      isplitl [H2]; · iexact H2
      isplitl [H3]; · iexact H3
      isplitl [Hf]; · iexact Hf
      isplitl [Hs]; · iexists _; iexact Hs
      iintro ⟨H0, H1, H2, H3, Hf, Hs⟩
      isplitl [Hf Hs HR Hp]
      · iexists _; iexists _
        isplitr; swap
        · isplitr; swap
          · isplitl [Hf]; · iexact Hf
            isplitl [Hs]; · iexact Hs
            isplitl [HR]; · iexact HR
            iexact Hp
          ipureintro
          intro _
          rw [show min (t.val + 1 - 1) 63 = 0 by omega, SA_zero V c t hz, SB_zero V c t hz]
        ipureintro
        rw [coord_val]
        exact step_rows V c t ht f hf
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hs' := hs (by omega)
      rw [show min (t.val - 1) 63 = t.val - 1 by omega] at hs'
      subst hs'
      iapply (run_next c Set.univ (grid1.coords t) h1 h4 (by rw [coord_val]; exact hz) _ _ _ _ _ _ _ _ _ _ _ _ _ _ _ _ _ _ (iblk1 V c 0 t) (iblk1 V c 1 t) (iblk1 V c 2 t) (iblk1 V c 3 t) f _ _ _)
      isplitl [H0]; · iexact H0
      isplitl [H1]; · iexact H1
      isplitl [H2]; · iexact H2
      isplitl [H3]; · iexact H3
      isplitl [Hf]; · iexact Hf
      isplitl [Hs]; · iexact Hs
      iintro ⟨H0, H1, H2, H3, Hf, Hs⟩
      isplitl [Hf Hs HR Hp]
      · iexists _; iexists _
        isplitr; swap
        · isplitr; swap
          · isplitl [Hf]; · iexact Hf
            isplitl [Hs]; · iexact Hs
            isplitl [HR]; · iexact HR
            iexact Hp
          ipureintro
          intro _
          rw [show min (t.val + 1 - 1) 63 = t.val by omega, SA_step V c t hz, SB_step V c t hz]
        ipureintro
        rw [coord_val]
        exact step_rows V c t ht f hf
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have h1 : ¬ k1_cond1 (grid1.coords t) = 1#1 := (cond1_iff _).not.2 (by rw [coord_val]; exact ht)
    have h4 : k1_cond4 (grid1.coords t) = 1#1 := (cond4_iff _).2 (by rw [coord_val]; omega)
    rw [leaves_6_live V c t (by omega), after1_0, after1_1, after1_2, after1_3, after1_4, after1_5, after1_6]
    simp only [before1_0, before1_1, before1_2, before1_3, before1_4, before1_5]
    unfold Φ1
    iintro ⟨⟨%f, %s, %hf, %hs, Hf, Hs, HR, Hp⟩, Ho, ⟨%d0, H0⟩, ⟨%d1, H1⟩, ⟨%d2, H2⟩, ⟨%d3, H3⟩, ⟨%d4, H4⟩, ⟨%d5, H5⟩, ⟨%d6, H6⟩⟩
    have hs' := hs (by omega)
    rw [show min (t.val - 1) 63 = 63 by omega] at hs'
    subst hs'
    iapply (run_last c Set.univ (grid1.coords t) h1 h4 _ _ _ _ _ _ _ _ _ _ _ _ _ _ _ _ _ _ (iblk1 V c 4 t) (iblk1 V c 5 t) f _ _ _)
    isplitl [H4]; · iexact H4
    isplitl [H5]; · iexact H5
    isplitl [H6]; · iexists _; iexact H6
    isplitl [Hf]; · iexact Hf
    isplitl [Hs]; · iexact Hs
    iintro ⟨H4, H5, H6, Hf, Hs⟩
    isplitl [Hf Hs HR Hp]
    · iexists _; iexists _
      isplitr; swap
      · isplitr; swap
        · isplitl [Hf]; · iexact Hf
          isplitl [Hs]; · iexact Hs
          isplitl [HR]; · iexact HR
          iexact Hp
        ipureintro
        intro _
        rw [show min (t.val + 1 - 1) 63 = 63 by omega]
      ipureintro
      intro y hy
      exact hf y (by omega)
    isplitl [Ho]; · iexact Ho
    isplitl [H0]; · iexact H0
    isplitl [H1]; · iexact H1
    isplitl [H2]; · iexact H2
    isplitl [H3]; · iexact H3
    isplitl [H4]; · iexact H4
    isplitl [H5]; · iexact H5
    rw [ld_rows V c t h4 f hf]
    iexact H6

theorem defs₀_row1 (t : Fin cfg1.N) :
    defs₀ (F := F) .tc cfg1.body (cfg1.bodyArgs t (cfg1.slots t)) = bodyAt1 t := by
  unfold defs₀; rw [Defs.onTc_tc]

/-- The body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! ## Entering and leaving the region -/

/-- The scoped buffers and the generator register give the invariant before the first point. -/
theorem enter1 (c : Dev nD) :
    iprop((∃ r, prngReg c r) ∗ (Pipeline.scopedRest (Ix := Unit) (Name := ℕ) (U := UR sig nD τ) (Lvl := ℕ) (Val := Elt F) spec1 c : sProp 𝕄)) ⊢ Φ1 V c 0 := by
  rw [scopedRest1_eq]; unfold Φ1 Rest1
  iintro ⟨Hp, G0, G1, G2, G3, G4, G5, G6, G7, G8, G9, G10, G11, G12, G13, ⟨%f, Hf⟩, ⟨%s, Hs⟩⟩
  iexists f; iexists s
  isplitr; · ipureintro; intro y hy; exact absurd hy (by simp)
  isplitr; · ipureintro; intro h; exact absurd h (by simp)
  isplitl [Hf]; · rw [owns_whole]; iexact Hf
  isplitl [Hs]; · rw [owns_whole]; iexact Hs
  isplitr [Hp]; swap; · iexact Hp
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  iexact G13

/-- And the invariant after the last gives them back. -/
theorem leave1 (c : Dev nD) (k : ℕ) :
    Φ1 V c k ⊢ iprop((∃ r, prngReg c r) ∗ (Pipeline.scopedRest (Ix := Unit) (Name := ℕ) (U := UR sig nD τ) (Lvl := ℕ) (Val := Elt F) spec1 c : sProp 𝕄)) := by
  rw [scopedRest1_eq]; unfold Φ1 Rest1
  simp only [owns_whole]
  iintro ⟨%f, %s, -, -, Hf, Hs, ⟨G0, G1, G2, G3, G4, G5, G6, G7, G8, G9, G10, G11, G12, G13⟩, Hp⟩
  isplitl [Hp]; · iexact Hp
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  isplitl [G13]; · iexact G13
  isplitl [Hf]; · iexists f; iexact Hf
  iexists s; iexact Hs

end Regions

end Cert.KernelIdeal.Hand

end
-- ==== Proof.IRun.lean ====
/- THE RUN of the program: its host stretches and its two regions as segments, from the launch to the return; every
   argument ends as launched and the result at the last boundary's contents. -/
module

public import proofs.«01_k».proof.Proof.IRegion0
public import proofs.«01_k».proof.Proof.IRegion1
public import proofs.«01_k».proof.Proof.Gen.KernelIdeal.Launch
public import Idealize.ShloMosaic.Lib.Pipeline.RegionsLoop
public import Idealize.ShloMosaic.Lib.Pipeline.FrameSuffix
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pointwise.Index
public import Idealize.ShloMosaic.Lib.Ring
public import Idealize.ShloMosaic.Lib.Tactic
public import Idealize.ShloMosaic.Lib.WritesUnit
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8, main_v9, main_v10]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v12, main_v13, main_v14]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v16]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (`withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (`withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)
theorem W5_main_arg7 (c : Dev nD) : W5 m ρ c (Proc.devRef .tc main_arg7) = m ((c : Thread nD τ).loc main_arg7) :=
  W5_args m ρ c main_arg7 (by decide)
theorem W5_main_arg8 (c : Dev nD) : W5 m ρ c (Proc.devRef .tc main_arg8) = m ((c : Thread nD τ).loc main_arg8) :=
  W5_args m ρ c main_arg8 (by decide)
theorem W5_main_arg9 (c : Dev nD) : W5 m ρ c (Proc.devRef .tc main_arg9) = m ((c : Thread nD τ).loc main_arg9) :=
  W5_args m ρ c main_arg9 (by decide)
theorem W5_main_arg10 (c : Dev nD) : W5 m ρ c (Proc.devRef .tc main_arg10) = m ((c : Thread nD τ).loc main_arg10) :=
  W5_args m ρ c main_arg10 (by decide)
theorem W5_main_arg11 (c : Dev nD) : W5 m ρ c (Proc.devRef .tc main_arg11) = m ((c : Thread nD τ).loc main_arg11) :=
  W5_args m ρ c main_arg11 (by decide)
theorem W5_main_arg12 (c : Dev nD) : W5 m ρ c (Proc.devRef .tc main_arg12) = m ((c : Thread nD τ).loc main_arg12) :=
  W5_args m ρ c main_arg12 (by decide)
theorem W5_main_arg13 (c : Dev nD) : W5 m ρ c (Proc.devRef .tc main_arg13) = m ((c : Thread nD τ).loc main_arg13) :=
  W5_args m ρ c main_arg13 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Φ1 (V3 m ρ) c 0 from rfl]
    iintro ⟨Hp, -, Hr⟩
    iapply (enter1 (V3 m ρ) c)
    isplitl [Hp]; · iexact Hp
    iexact Hr
  hout c := by
    rw [Pipeline.ownSems0_none, show (pdats m ρ 1 c).Φ (Fin.last _) = Φ1 (V3 m ρ) c grid1.N from rfl]
    iintro H
    ihave H := (leave1 (V3 m ρ) c grid1.N) $$ H
    icases H with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- At the compiled mesh, from any memory with zero counters, every weakly fair execution of @main on the TensorCores
    terminates, nothing faulting, and every final state has the argument arrays as launched, the result at the last
    boundary's contents and every semaphore counter at zero. -/
theorem run_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_v16) = W5 m ρ c (Proc.devRef .tc main_v16))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       h c _ (mem_uc main_v16 (by decide))⟩), funext fun g => hz g (.inr (no_unscoped g.2))⟩)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨fun c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1, (h.1 c).2.2.2.2.2.2.2.2.2.1, (h.1 c).2.2.2.2.2.2.2.2.2.2.1, (h.1 c).2.2.2.2.2.2.2.2.2.2.2.1, (h.1 c).2.2.2.2.2.2.2.2.2.2.2.2.1, (h.1 c).2.2.2.2.2.2.2.2.2.2.2.2.2.1⟩, h.2⟩) (run_all m ρ)

/-- The run: the result at the last boundary's contents, the arguments as launched. -/
theorem run : θ_run defs (onTc (τ := τ) (main (F := F))) ⟨m, fun _ => 0, ρ⟩ (fun r => ∀ c : Dev nD,
      r.2.mem ((c.tc : Thread nD τ).loc main_v16) = W5 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h.1 c).2.2.2.2.2.2.2.2.2.2.2.2.2.2, (h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1, (h.1 c).2.2.2.2.2.2.2.2.2.1, (h.1 c).2.2.2.2.2.2.2.2.2.2.1, (h.1 c).2.2.2.2.2.2.2.2.2.2.2.1, (h.1 c).2.2.2.2.2.2.2.2.2.2.2.2.1, (h.1 c).2.2.2.2.2.2.2.2.2.2.2.2.2.1⟩) (run_all m ρ)

end Cert.KernelIdeal.Hand

end
-- ==== Proof.Frames.lean ====
/- The claims that ask nothing of the values: each of the three programs runs to its end, leaves its arguments unchanged
   and its counters at zero; and the idealized program differs from the kernel's by the named constant alone. -/
module

public import proofs.«01_k».proof.Defs
public import proofs.«01_k».proof.Proof.KRun
public import proofs.«01_k».proof.Proof.IRun
public import proofs.«01_k».proof.Proof.Gen.ReferenceIdeal.Run
public import Idealize.ShloMosaic.Lib.Claim

@[expose] public section

noncomputable section

namespace Cert.Proof

open Idealize.ShloMosaic Idealize.SL.Sem

theorem frame_p : Cert.quiescent_Kernel (hKernel := Cert.Kernel.Gen.facts) := fun m ρ _ => Cert.Kernel.Hand.frame (F := Bits) m ρ

theorem frame_pi : Cert.quiescent_KernelIdeal (hKernelIdeal := Cert.KernelIdeal.Gen.facts) := fun m ρ _ => Cert.KernelIdeal.Hand.frame (F := Ideal) m ρ

theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask constant is −∞ in the idealized program and the printed word in the kernel's. -/
theorem preserves : Cert.preserves_Kernel_KernelIdeal :=
  IdealRules.named_const.statement Cert.KernelIdeal.κ "mask" .f32 0xF149F2CA#32 ⊥ rfl

end Cert.Proof

end
-- ==== Proof.VTop.lean ====
module

public import Idealize.ShloMosaic.Lib.Pointwise
public import Idealize.ShloMosaic.Lib.SortFacts

@[expose] public section

/-! # Picking the greatest entries of a row

    `pick f` is the least position at which the row `f` is greatest; `msk f k` is the row after `k` such picks, each
    picked entry replaced by `⊥`; `sel f k` is the position of the pick number `k`.  For a row with no entry `⊥` these are
    the positions a stable sort, greatest first, puts at the front (`sortedFrom_eq_sel`). -/

noncomputable section

open Idealize.ShloMosaic

namespace Cert.Hand

variable {n : ℕ} [NeZero n]

/-- `i` is the least position at which `f` is greatest. -/
def IsPick (f : Fin n → EReal) (i : Fin n) : Prop := (∀ j, f j ≤ f i) ∧ ∀ j, j < i → f j < f i

theorem isPick_unique {f : Fin n → EReal} {i j : Fin n} (hi : IsPick f i) (hj : IsPick f j) : i = j := by
  rcases lt_trichotomy i j with h | h | h
  · exact absurd (hj.2 i h) (not_lt.mpr (hi.1 j))
  · exact h
  · exact absurd (hi.2 j h) (not_lt.mpr (hj.1 i))

theorem exists_isPick (f : Fin n → EReal) : ∃ i, IsPick f i := by
  classical
  obtain ⟨i0, hi0⟩ := Finite.exists_max f
  have hne : (Finset.univ.filter fun i => ∀ j, f j ≤ f i).Nonempty := ⟨i0, by simpa using hi0⟩
  refine ⟨(Finset.univ.filter fun i => ∀ j, f j ≤ f i).min' hne, ?_, ?_⟩
  · have h := Finset.min'_mem _ hne
    exact (Finset.mem_filter.mp h).2
  · intro j hj
    have h := (Finset.mem_filter.mp (Finset.min'_mem _ hne)).2
    refine lt_of_le_of_ne (h j) fun he => ?_
    have hm : j ∈ Finset.univ.filter fun i => ∀ j, f j ≤ f i :=
      Finset.mem_filter.mpr ⟨Finset.mem_univ _, fun k => (h k).trans he.ge⟩
    exact absurd (Finset.min'_le _ j hm) (not_le.mpr hj)

/-- The least position at which `f` is greatest. -/
def pick (f : Fin n → EReal) : Fin n := Classical.choose (exists_isPick f)

theorem isPick_pick (f : Fin n → EReal) : IsPick f (pick f) := Classical.choose_spec (exists_isPick f)

theorem pick_eq {f : Fin n → EReal} {i : Fin n} (h : IsPick f i) : pick f = i := isPick_unique (isPick_pick f) h

/-- The row after `k` picks. -/
def msk (f : Fin n → EReal) : ℕ → Fin n → EReal
  | 0 => f
  | k + 1 => fun u => if u = pick (msk f k) then ⊥ else msk f k u

/-- The position of the pick number `k`. -/
def sel (f : Fin n → EReal) (k : ℕ) : Fin n := pick (msk f k)

theorem msk_succ (f : Fin n → EReal) (k : ℕ) (u : Fin n) : msk f (k + 1) u = if u = sel f k then ⊥ else msk f k u := rfl

/-! ## The stable sort -/

/-- Greater, or equal at a lower position. -/
def Ahead (f : Fin n → EReal) (a b : Fin n) : Prop := f b < f a ∨ (f a = f b ∧ a < b)

theorem Ahead.trans {f : Fin n → EReal} {a b c : Fin n} (h : Ahead f a b) (h' : Ahead f b c) : Ahead f a c := by
  rcases h with h | ⟨h, g⟩ <;> rcases h' with h' | ⟨h', g'⟩
  · exact .inl (h'.trans h)
  · exact .inl (h' ▸ h)
  · exact .inl (h ▸ h')
  · exact .inr ⟨h.trans h', g.trans g'⟩

/-- The order by which the sort puts an entry in front of another. -/
def before (f : Fin n → EReal) (a b : Fin n) : Bool := decide (f b < f a)

theorem pairwise_insert (f : Fin n → EReal) (a : Fin n) (l : List (Fin n)) (hl : l.Pairwise (Ahead f)) (ha : ∀ b ∈ l, a < b) :
    (insertBefore (before f) a l).Pairwise (Ahead f) := by
  induction l with
  | nil => exact List.pairwise_singleton _ _
  | cons b l ih =>
    rw [List.pairwise_cons] at hl
    unfold insertBefore
    split
    · rename_i h
      have h : f a < f b := by simpa [before] using h
      refine List.pairwise_cons.mpr ⟨fun c hc => ?_, ih hl.2 fun c hc => ha c (List.mem_cons_of_mem _ hc)⟩
      rcases List.mem_cons.mp ((perm_insertBefore (before f) a l).mem_iff.mp hc) with rfl | hc'
      · exact .inl h
      · exact hl.1 c hc'
    · rename_i h
      have h : f b ≤ f a := by simpa [before] using h
      have hab : Ahead f a b := by
        rcases h.lt_or_eq with h | h
        · exact .inl h
        · exact .inr ⟨h.symm, ha b List.mem_cons_self⟩
      refine List.pairwise_cons.mpr ⟨fun c hc => ?_, List.pairwise_cons.mpr hl⟩
      rcases List.mem_cons.mp hc with rfl | hc'
      · exact hab
      · exact hab.trans (hl.1 c hc')

theorem pairwise_sort (f : Fin n → EReal) (l : List (Fin n)) (hl : l.Pairwise (· < ·)) :
    (stableSort (before f) l).Pairwise (Ahead f) := by
  induction l with
  | nil => exact List.Pairwise.nil
  | cons a l ih =>
    rw [List.pairwise_cons] at hl
    unfold stableSort
    exact pairwise_insert f a _ (ih hl.2) fun b hb => hl.1 b ((perm_stableSort (before f) l).mem_iff.mp hb)

theorem ahead_sortedFrom (f : Fin n → EReal) (i j : Fin n) (hij : i < j) :
    Ahead f (sortedFrom (before f) i) (sortedFrom (before f) j) := by
  have hp : ∀ a b : Fin (sortPositions n (before f)).length, a < b →
      Ahead f ((sortPositions n (before f)).get a) ((sortPositions n (before f)).get b) :=
    List.pairwise_iff_get.mp (pairwise_sort f (List.finRange n) (List.pairwise_lt_finRange n))
  unfold sortedFrom
  exact hp _ _ (by simpa using hij)

/-- The picks are the front of the stable sort, greatest first. -/
theorem sortedFrom_eq_sel (f : Fin n → EReal) (hf : ∀ u, f u ≠ ⊥) (k : Fin n) : sortedFrom (before f) k = sel f k.val := by
  have hm : ∀ k : ℕ, (hk : k < n) → (∀ u, msk f k u = if ∃ i : Fin n, i.val < k ∧ sortedFrom (before f) i = u then ⊥ else f u) →
      sel f k = sortedFrom (before f) ⟨k, hk⟩ := by
    intro k hk h
    refine pick_eq ⟨fun j => ?_, fun j hj => ?_⟩
    · have hs : msk f k (sortedFrom (before f) ⟨k, hk⟩) = f (sortedFrom (before f) ⟨k, hk⟩) := by
        rw [h, if_neg]
        rintro ⟨i, hi, he⟩
        have := sortedFrom_injective _ he
        subst this
        exact lt_irrefl _ hi
      rw [hs, h]
      split
      · exact bot_le
      · rename_i hn
        obtain ⟨i, rfl⟩ := sortedFrom_surjective (before f) j
        rcases lt_trichotomy (⟨k, hk⟩ : Fin n) i with hi | hi | hi
        · rcases ahead_sortedFrom f _ _ hi with h1 | ⟨h1, _⟩
          · exact h1.le
          · exact h1.ge
        · rw [hi]
        · exact absurd ⟨i, hi, rfl⟩ hn
    · have hs : msk f k (sortedFrom (before f) ⟨k, hk⟩) = f (sortedFrom (before f) ⟨k, hk⟩) := by
        rw [h, if_neg]
        rintro ⟨i, hi, he⟩
        have := sortedFrom_injective _ he
        subst this
        exact lt_irrefl _ hi
      rw [hs, h]
      split
      · exact bot_lt_iff_ne_bot.mpr (hf _)
      · rename_i hn
        obtain ⟨i, rfl⟩ := sortedFrom_surjective (before f) j
        rcases lt_trichotomy (⟨k, hk⟩ : Fin n) i with hi | hi | hi
        · rcases ahead_sortedFrom f _ _ hi with h1 | ⟨_, h1⟩
          · exact h1
          · exact absurd hj h1.asymm
        · rw [hi] at hj; exact absurd hj (lt_irrefl _)
        · exact absurd ⟨i, hi, rfl⟩ hn
  have hall : ∀ k : ℕ, k < n → ∀ u, msk f k u = if ∃ i : Fin n, i.val < k ∧ sortedFrom (before f) i = u then ⊥ else f u := by
    intro k
    induction k with
    | zero => intro _ u; simp [msk]
    | succ k ih =>
      intro hk u
      have hk' : k < n := by omega
      rw [msk_succ, hm k hk' (ih hk'), ih hk' u]
      by_cases hu : u = sortedFrom (before f) ⟨k, hk'⟩
      · rw [if_pos hu, if_pos ⟨⟨k, hk'⟩, Nat.lt_succ_self k, hu.symm⟩]
      · rw [if_neg hu]
        refine if_congr ⟨fun ⟨i, hi, he⟩ => ⟨i, by omega, he⟩, fun ⟨i, hi, he⟩ => ⟨i, ?_, he⟩⟩ rfl rfl
        rcases Nat.lt_succ_iff_lt_or_eq.mp hi with h | h
        · exact h
        · exact absurd (by rw [← he]; congr 1; exact Fin.ext h) hu
  exact (hm k.val k.isLt (hall k.val k.isLt)).symm

end Cert.Hand
-- ==== Proof.VSpec.lean ====
module

public import proofs.«01_k».proof.Proof.VTop

@[expose] public section

/-! # The neighbours and their weights

    The functions both programs compute on the view coordinates: the negated squared distances, the positions of the five
    nearest views, and the weight the small network gives a neighbour.  Entries that are real numbers (`IsR`) stay real
    under the operations used. -/

noncomputable section

open Idealize.ShloMosaic

namespace Cert.Hand

/-! ## Real entries -/

/-- The entry is a real number. -/
def IsR (x : EReal) : Prop := ∃ r : ℝ, x = (r : EReal)

theorem isR_coe (r : ℝ) : IsR (r : EReal) := ⟨r, rfl⟩
theorem isR_zero : IsR 0 := ⟨0, rfl⟩
theorem isR_one : IsR 1 := ⟨1, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem coe_max (a b : ℝ) : ((max a b : ℝ) : EReal) = max (a : EReal) (b : EReal) :=
  Monotone.map_max (fun _ _ h => EReal.coe_le_coe_iff.mpr h)
theorem IsR.max {x y : EReal} (hx : IsR x) (hy : IsR y) : IsR (max x y) := by
  obtain ⟨a, rfl⟩ := hx; obtain ⟨b, rfl⟩ := hy
  exact ⟨Max.max a b, (coe_max a b).symm⟩
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
theorem isR_sum {ι : Type} (s : Finset ι) {f : ι → EReal} (h : ∀ i, IsR (f i)) : IsR (∑ i ∈ s, f i) := by
  choose g hg using h
  exact ⟨∑ i ∈ s, g i, by rw [coe_sum]; exact Finset.sum_congr rfl fun i _ => hg i⟩
theorem ideal_sqrt_coe {r : ℝ} (h : 0 ≤ r) : Ideal.sqrt (r : EReal) = ((Real.sqrt r : ℝ) : EReal) := by
  show (if r < 0 then ⊥ else ((Real.sqrt r : ℝ) : EReal)) = _
  rw [if_neg (not_lt.mpr h)]
theorem ideal_rsqrt_coe {r : ℝ} (h : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg (not_lt.mpr h.le), if_neg h.ne']

/-! ## Distances and neighbours -/

/-- The negated squared distance of views `v` and `u`. -/
def ndS (V : Fin 32 → Fin 3 → ℝ) (v u : Fin 32) : ℝ := 2 * (∑ x, V v x * V u x) - (∑ x, V v x * V v x) - ∑ x, V u x * V u x

/-- The same as an extended real. -/
def ndE (V : Fin 32 → Fin 3 → ℝ) (v : Fin 32) : Fin 32 → EReal := fun u => (ndS V v u : EReal)

/-- The neighbour number `k` of view `v`. -/
def nbr (V : Fin 32 → Fin 3 → ℝ) (v : Fin 32) (k : ℕ) : Fin 32 := sel (ndE V v) k

/-! ## The network -/

/-- The first layer before its activation, at the coordinates `p` of the nearest view and `q` of the neighbour. -/
def lay1 (w1 : Fin 10 → Fin 10 → EReal) (b1 : Fin 10 → EReal) (p q : Fin 3 → EReal) (o : Fin 10) : EReal :=
  (∑ x : Fin 3, p x * w1 o ⟨x.val, by omega⟩) + (∑ x : Fin 3, q x * w1 o ⟨3 + x.val, by omega⟩)
    + (∑ x : Fin 3, (p x - q x) * w1 o ⟨6 + x.val, by omega⟩)
    + Ideal.sqrt (∑ x : Fin 3, (p x - q x) * (p x - q x)) * w1 o 9 + b1 o

/-- The neighbour's weight. -/
def mlp (w1 : Fin 10 → Fin 10 → EReal) (b1 : Fin 10 → EReal) (w2 : Fin 10 → Fin 10 → EReal) (b2 : Fin 10 → EReal)
    (w3 : Fin 10 → EReal) (b3 : EReal) (p q : Fin 3 → EReal) : EReal :=
  (∑ x : Fin 10, max ((∑ y : Fin 10, max (lay1 w1 b1 p q y) 0 * w2 x y) + b2 x) 0 * w3 x) + b3

theorem isR_lay1 {w1 : Fin 10 → Fin 10 → EReal} {b1 : Fin 10 → EReal} {p q : Fin 3 → EReal} (h1 : ∀ o i, IsR (w1 o i)) (hb1 : ∀ o, IsR (b1 o))
    (hp : ∀ x, IsR (p x)) (hq : ∀ x, IsR (q x)) (o : Fin 10) : IsR (lay1 w1 b1 p q o) := by
  refine ((((isR_sum _ fun x => (hp x).mul (h1 _ _)).add (isR_sum _ fun x => (hq x).mul (h1 _ _))).add
    (isR_sum _ fun x => ((hp x).sub (hq x)).mul (h1 _ _))).add (IsR.mul ?_ (h1 _ _))).add (hb1 o)
  choose pr hpr using hp
  choose qr hqr using hq
  have e : ∑ x : Fin 3, (p x - q x) * (p x - q x) = ((∑ x, (pr x - qr x) * (pr x - qr x) : ℝ) : EReal) := by
    rw [coe_sum]
    refine Finset.sum_congr rfl fun x _ => ?_
    rw [hpr, hqr, ← EReal.coe_sub, ← EReal.coe_mul]
  rw [e, ideal_sqrt_coe (Finset.sum_nonneg fun x _ => mul_self_nonneg _)]
  exact isR_coe _

theorem isR_mlp {w1 : Fin 10 → Fin 10 → EReal} {b1 : Fin 10 → EReal} {w2 : Fin 10 → Fin 10 → EReal} {b2 w3 : Fin 10 → EReal} {b3 : EReal}
    {p q : Fin 3 → EReal} (h1 : ∀ o i, IsR (w1 o i)) (hb1 : ∀ o, IsR (b1 o)) (h2 : ∀ o i, IsR (w2 o i)) (hb2 : ∀ o, IsR (b2 o))
    (h3 : ∀ o, IsR (w3 o)) (hb3 : IsR b3) (hp : ∀ x, IsR (p x)) (hq : ∀ x, IsR (q x)) : IsR (mlp w1 b1 w2 b2 w3 b3 p q) :=
  (isR_sum _ fun x => (((isR_sum _ fun y => ((isR_lay1 h1 hb1 hp hq y).max isR_zero).mul (h2 _ _)).add (hb2 x)).max isR_zero).mul (h3 x)).add hb3

/-! ## The least column of a masked row -/

/-- The minimum, as signed words, over the columns at which `f` reaches its maximum, is the picked column. -/
theorem fold_pick (f : Fin 32 → EReal) (b : EReal) (hb : b = ⊥) :
    Finset.fold IntOp.minsi (2147483647#32)
      (fun x : Fin 32 => if Finset.fold max b (fun x => f x) Finset.univ ≤ f x then BitVec.ofNat 32 x.val else 1073741824#32)
      Finset.univ = BitVec.ofNat 32 (pick f).val := by
  subst hb
  have hmax : Finset.fold max ⊥ (fun x => f x) Finset.univ = f (pick f) := by
    apply le_antisymm
    · exact Finset.fold_max_le _ |>.mpr ⟨bot_le, fun x _ => (isPick_pick f).1 x⟩
    · exact Finset.le_fold_max _ |>.mpr (.inr ⟨pick f, Finset.mem_univ _, le_rfl⟩)
  rw [hmax]
  have hom : ∀ x y : BitVec 32, (IntOp.minsi x y).toInt = min x.toInt y.toInt := by
    intro x y
    unfold IntOp.minsi
    rw [BitVec.slt_eq_decide]
    by_cases h : x.toInt < y.toInt
    · simp [h, h.le]
    · simp [h, not_lt.mp h]
  have hsm : ∀ x : Fin 32, (BitVec.ofNat 32 x.val).toInt = (x.val : ℤ) := by decide
  apply BitVec.eq_of_toInt_eq
  rw [← Finset.fold_hom (op' := (min : ℤ → ℤ → ℤ)) (m := BitVec.toInt) hom]
  rw [hsm]
  apply le_antisymm
  · refine Finset.fold_min_le _ |>.mpr (.inr ⟨pick f, Finset.mem_univ _, ?_⟩)
    rw [if_pos le_rfl, hsm]
  · refine Finset.le_fold_min _ |>.mpr ⟨?_, fun x _ => ?_⟩
    · have h := (pick f).isLt
      have : (2147483647#32 : BitVec 32).toInt = 2147483647 := by decide
      rw [this]; omega
    · split
      · rename_i h
        rw [hsm]
        have : ¬ x < pick f := fun hl => absurd ((isPick_pick f).2 x hl) (not_lt.mpr h)
        have := not_lt.mp this
        exact_mod_cast this
      · have h := (pick f).isLt
        have : (1073741824#32 : BitVec 32).toInt = 1073741824 := by decide
        rw [this]; omega

/-- A sum against a row with a single one. -/
theorem sum_hot {n : ℕ} (s : Fin n) (g : Fin n → EReal) : ∑ x, (if x = s then (1 : EReal) else 0) * g x = g s := by
  rw [Finset.sum_eq_single s]
  · simp
  · intro b _ h; rw [if_neg h, zero_mul]
  · intro h; exact absurd (Finset.mem_univ _) h

theorem ofBits_neg_inf : Ideal.ofBits .f32 0xFF800000#32 = ⊥ := by
  simp [Ideal.ofBits, Ideal.ieee]

theorem ofBits_two : Ideal.ofBits .f32 0x40000000#32 = ((2 : ℝ) : EReal) := by
  simp [Ideal.ofBits, Ideal.ieee, -EReal.coe_mul]; norm_num

end Cert.Hand
-- ==== Proof.VNbr.lean ====
module

public import proofs.«01_k».proof.Proof.Gen.ReferenceIdeal.Read
public import proofs.«01_k».proof.Proof.VSpec
public import Idealize.ShloMosaic.Lib.Pointwise

@[expose] public section

/-! The reference's neighbours: the top five of a row of negated distances are its five picks, and the gathers read the picked
    rows. -/

set_option maxRecDepth 16384

noncomputable section

namespace Cert.ReferenceIdeal.Hand

open Cert.ReferenceIdeal Cert.ReferenceIdeal.Gen Cert.ReferenceIdeal.Read Cert.Hand
open Idealize.ShloMosaic Idealize.ShloMosaic.TcCoe Idealize.SL.Sem

/-! ## Reading one row per neighbour -/

section Gather
variable (C : ℕ)

/-- Reading, for each batch, row and neighbour, one of the batch's 32 rows of length `C`. -/
def rowDims (wf : GatherDims.WF ⟨3, ![512, 32, C]⟩ ⟨4, ![512, 32, 5, 1]⟩ ⟨4, ![512, 32, 5, C]⟩ [3] [1] [0] [1] [0] 3 ![1, 1, C]) :
    GatherDims ⟨3, ![512, 32, C]⟩ ⟨4, ![512, 32, 5, 1]⟩ ⟨4, ![512, 32, 5, C]⟩ where
  offsetDims := [3]
  collapsedSliceDims := [1]
  operandBatchingDims := [0]
  startIndicesBatchingDims := [0]
  startIndexMap := [1]
  indexVectorDim := 3
  sliceSizes := ![1, 1, C]
  wf := wf

theorem gather_rows {α : Type} (wf) (x : (⟨3, ![512, 32, C]⟩ : Shape).Idx → α) (idx : IVec ⟨4, ![512, 32, 5, 1]⟩ 32)
    (b : Fin 512) (v : Fin 32) (k : Fin 5) (c : Fin C) (n : Fin 32) (hn : idx (ix4 b v k 0) = BitVec.ofNat 32 n.val) :
    Host.gather (rowDims C wf) x idx (ix4 b v k c) = x (ix3 b n c) := by
  unfold Host.gather
  refine congrArg x (funext fun a => Fin.ext ?_)
  match a with
  | ⟨0, _⟩ =>
    show (rowDims C wf).start (ix4 b v k c) idx 0 + (rowDims C wf).batchCoord (ix4 b v k c) 0 + (rowDims C wf).offCoord (ix4 b v k c) 0 = b.val
    have h1 : (rowDims C wf).start (ix4 b v k c) idx 0 = 0 := rfl
    have h2 : (rowDims C wf).batchCoord (ix4 b v k c) 0 = b.val := rfl
    have h3 : (rowDims C wf).offCoord (ix4 b v k c) 0 = 0 := rfl
    rw [h1, h2, h3]; omega
  | ⟨1, _⟩ =>
    show (rowDims C wf).start (ix4 b v k c) idx 1 + (rowDims C wf).batchCoord (ix4 b v k c) 1 + (rowDims C wf).offCoord (ix4 b v k c) 1 = n.val
    have h2 : (rowDims C wf).batchCoord (ix4 b v k c) 1 = 0 := rfl
    have h3 : (rowDims C wf).offCoord (ix4 b v k c) 1 = 0 := rfl
    have hsi : (rowDims C wf).siIdx (ix4 b v k c) ⟨0, Nat.one_pos⟩ = ix4 b v k 0 := by
      funext e; refine Fin.ext ?_
      match e with
      | ⟨0, _⟩ => rfl
      | ⟨1, _⟩ => rfl
      | ⟨2, _⟩ => rfl
      | ⟨3, _⟩ => rfl
    have h1 : (rowDims C wf).start (ix4 b v k c) idx 1 = min (idx ((rowDims C wf).siIdx (ix4 b v k c) ⟨0, Nat.one_pos⟩)).toInt.toNat 31 := rfl
    rw [h1, h2, h3, hsi, hn]
    clear hn
    revert n
    decide
  | ⟨2, _⟩ =>
    show (rowDims C wf).start (ix4 b v k c) idx 2 + (rowDims C wf).batchCoord (ix4 b v k c) 2 + (rowDims C wf).offCoord (ix4 b v k c) 2 = c.val
    have h1 : (rowDims C wf).start (ix4 b v k c) idx 2 = 0 := rfl
    have h2 : (rowDims C wf).batchCoord (ix4 b v k c) 2 = 0 := rfl
    have h3 : (rowDims C wf).offCoord (ix4 b v k c) 2 = c.val := rfl
    rw [h1, h2, h3]; omega

end Gather

theorem ofBits_neg_two : Ideal.ofBits .f32 3221225472#32 = ((-2 : ℝ) : EReal) := by
  simp [Ideal.ofBits, Ideal.ieee, -EReal.coe_mul, -EReal.coe_neg]; norm_num

/-! ## The top five -/

theorem top_at (D : FVec Ideal S512x32x32 .f32) (b : Fin 512) (v : Fin 32) (k : Fin 5) :
    (Host.topK S512x32x5 2 (FloatOps.cmpfTotal .gt) D sliceFits_S512x32x32_S512x32x5).2 (ix3 b v k)
      = BitVec.ofNat 32 (sortedFrom (before (fun u : Fin 32 => D (ix3 b v u))) ⟨k.val, by omega⟩).val := by
  have e : ∀ u : Fin 32, Shape.Idx.along (s := S512x32x32) (ix3 b v ⟨k.val, by omega⟩) 2 u = ix3 b v u := by
    intro u
    funext a
    match a with
    | ⟨0, _⟩ => rfl
    | ⟨1, _⟩ => rfl
    | ⟨2, _⟩ => rfl
  have e2 : ∀ u : Fin 32, BitVec.ofNat 32 (Shape.Idx.along (s := S512x32x32) (ix3 b v ⟨k.val, by omega⟩) 2 u 2).val = BitVec.ofNat 32 u.val := by
    intro u
    rw [e u]
    rfl
  have hb : (fun p q : Fin 32 => (FloatOps.cmpfTotal (F := Ideal) (φ := .f32) .gt (D (ix3 b v p)) (D (ix3 b v q)) == 1#1))
      = before (fun u : Fin 32 => D (ix3 b v u)) := by
    funext p q
    show (BitVec.ofBool (decide (D (ix3 b v q) < D (ix3 b v p))) == 1#1) = decide (D (ix3 b v q) < D (ix3 b v p))
    cases decide (D (ix3 b v q) < D (ix3 b v p)) <;> rfl
  rw [← hb]
  have hs : ∀ y : IVec S512x32x32 32, extractStridedSlice S512x32x5 (fun _ => 0) y sliceFits_S512x32x32_S512x32x5 (ix3 b v k) = y (ix3 b v ⟨k.val, by omega⟩) := by
    intro y
    unfold extractStridedSlice
    refine congrArg y (funext fun a => Fin.ext ?_)
    match a with
    | ⟨0, _⟩ => exact Nat.zero_add _
    | ⟨1, _⟩ => exact Nat.zero_add _
    | ⟨2, _⟩ => exact Nat.zero_add _
  show extractStridedSlice S512x32x5 (fun _ => 0) (Host.sort2 S512x32x32 2 (fun l r : EReal × BitVec 32 => FloatOps.cmpfTotal (F := Ideal) (φ := .f32) .gt l.1 r.1) D
    (fun i => if hd : 2 < S512x32x32.rank then iotaInDim S512x32x32 32 ⟨2, hd⟩ i else 0#32)).2 sliceFits_S512x32x32_S512x32x5 (ix3 b v k) = _
  refine (hs _).trans ?_
  show BitVec.ofNat 32 ((Shape.Idx.along (s := S512x32x32) (ix3 b v ⟨k.val, by omega⟩) 2
    (sortedFrom (fun p q : Fin 32 => (FloatOps.cmpfTotal (F := Ideal) (φ := .f32) .gt (D (Shape.Idx.along (s := S512x32x32) (ix3 b v ⟨k.val, by omega⟩) 2 p))
      (D (Shape.Idx.along (s := S512x32x32) (ix3 b v ⟨k.val, by omega⟩) 2 q)) == 1#1)) (⟨k.val, by omega⟩ : Fin 32))) 2).val = _
  simp only [e]
  exact e2 _

variable (x1 : FVec Ideal S32x3 .f32) (Vr : Fin 32 → Fin 3 → ℝ) (hV : ∀ v x, x1 (ix2 v x) = ((Vr v x : ℝ) : EReal))
include hV

theorem dist_at (b : Fin 512) (v u : Fin 32) : val_main_v208 (F := Ideal) x1 (ix3 b v u) = ndE Vr v u := by
  pointwise [val_main_v194, val_main_v195, val_main_v196, val_main_v197, val_main_cst_0, val_main_cst_1, val_main_v198, val_main_v199, val_main_v200, val_main_v201, val_main_v202, val_main_v203, val_main_v204, val_main_v205, val_main_v206, val_main_v207, val_main_v208]
  rw [ofBits_neg_two]
  simp only [hV, ndE, ndS]
  simp only [← EReal.coe_mul, ← coe_sum, ← EReal.coe_sub, ← EReal.coe_neg, EReal.coe_eq_coe_iff]
  ring

theorem idx_at (b : Fin 512) (v : Fin 32) (k : Fin 5) :
    val_main_indices (F := Ideal) x1 (ix3 b v k) = BitVec.ofNat 32 (nbr Vr v k.val).val := by
  have hd : ∀ b v u, val_main_v208 (F := Ideal) x1 (ix3 b v u) = ndE Vr v u := dist_at x1 Vr hV
  unfold val_main_indices
  refine (top_at _ b v k).trans ?_
  rw [show (fun u : Fin 32 => val_main_v208 (F := Ideal) x1 (ix3 b v u)) = ndE Vr v from funext (hd b v), sortedFrom_eq_sel (ndE Vr v) (fun u => EReal.coe_ne_bot _)]
  rfl

theorem word_at (b : Fin 512) (v : Fin 32) (k : Fin 5) : val_main_v221 (F := Ideal) x1 (ix4 b v k 0) = BitVec.ofNat 32 (nbr Vr v k.val).val := by
  have h := idx_at x1 Vr hV b v k
  pointwise [val_main_v221, val_main_v220, val_main_v219, val_main_v218, val_main_v217,val_main_v216, val_main_c, val_main_c_3, val_main_c_4]
  rw [h]
  clear h
  generalize nbr Vr v k.val = n
  revert n
  decide

theorem word_at' (b : Fin 512) (v : Fin 32) (k : Fin 5) : val_main_v214 (F := Ideal) x1 (ix4 b v k 0) = BitVec.ofNat 32 (nbr Vr v k.val).val := by
  have h := idx_at x1 Vr hV b v k
  pointwise [val_main_v214, val_main_v213, val_main_v212, val_main_v211, val_main_v210,val_main_v209, val_main_c, val_main_c_3, val_main_c_4, val_main_c_2]
  rw [h]
  clear h
  generalize nbr Vr v k.val = n
  revert n
  decide

/-- The features of a row's neighbour. -/
theorem feat_near (x0 : FVec Ideal S16384x3x34x18 .f32) (x2 : FVec Ideal S1x3x3x3 .f32) (x3 : FVec Ideal S1 .f32)
    (b : Fin 512) (v : Fin 32) (k : Fin 5) (o : Fin 512) :
    val_main_v215 (F := Ideal) x0 x1 x2 x3 (ix4 b v k o) = val_main_v193 (F := Ideal) x0 x2 x3 (ix3 b (nbr Vr v k.val) o) :=
  gather_rows 512 _ _ _ b v k o _ (word_at' x1 Vr hV b v k)

/-- The coordinates of a row's neighbour. -/
theorem near_at (b : Fin 512) (v : Fin 32) (k : Fin 5) (x : Fin 3) :
    val_main_v222 (F := Ideal) x1 (ix4 b v k x) = (Vr (nbr Vr v k.val) x : EReal) := by
  refine (gather_rows 3 _ _ _ b v k x _ (word_at x1 Vr hV b v k)).trans ?_
  rw [← hV]
  pointwise [val_main_v194, val_main_v195]

end Cert.ReferenceIdeal.Hand
-- ==== Proof.VConv.lean ====
module

public import proofs.«01_k».proof.Proof.Gen.ReferenceIdeal.Read
public import Idealize.ShloMosaic.Lib.Pointwise

@[expose] public section

/-! The reference's convolution at an entry, tap by tap. -/

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.SL.Sem

/-- One tap's product. -/
def tapT (x0 : FVec Ideal S16384x3x34x18 .f32) (x2 : FVec Ideal S1x3x3x3 .f32) (y : Fin 16384) (r : Fin 32) (q : Fin 16) (ci dr dc : Fin 3) : EReal :=
  x0 (ix4 y ci ⟨dr.val + r.val, by omega⟩ ⟨dc.val + q.val, by omega⟩) * x2 (ix4 0 ci dr dc)

variable (x0 : FVec Ideal S16384x3x34x18 .f32) (x2 : FVec Ideal S1x3x3x3 .f32) (y : Fin 16384) (r : Fin 32) (q : Fin 16)

/-- The nine taps of one channel. -/
def tap9 (ci : Fin 3) : EReal := ∑ dr : Fin 3, ∑ dc : Fin 3, tapT x0 x2 y r q ci dr dc

theorem conv_a : val_main_v63 (F := Ideal) x0 x2 (ix3 y r q) = tap9 x0 x2 y r q 0 := by
  pointwise [val_main_cst, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63]
  simp [tap9, tapT, Fin.sum_univ_three, add_assoc]

theorem conv_b : val_main_v126 (F := Ideal) x0 x2 (ix3 y r q) = val_main_v63 (F := Ideal) x0 x2 (ix3 y r q) + tap9 x0 x2 y r q 1 := by
  generalize h : val_main_v63 (F := Ideal) x0 x2 = z
  pointwise [val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126]
  rw [h]
  simp [tap9, tapT, Fin.sum_univ_three, add_assoc]

theorem conv_c : val_main_v189 (F := Ideal) x0 x2 (ix3 y r q) = val_main_v126 (F := Ideal) x0 x2 (ix3 y r q) + tap9 x0 x2 y r q 2 := by
  generalize h : val_main_v126 (F := Ideal) x0 x2 = z
  pointwise [val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189]
  rw [h]
  simp [tap9, tapT, Fin.sum_univ_three, add_assoc]

/-- The feature a batch's row reads: the convolution at its place in the image, and the offset. -/
theorem feat_at (x3 : FVec Ideal S1 .f32) (b : Fin 512) (v : Fin 32) (m : Fin 512) :
    val_main_v193 (F := Ideal) x0 x2 x3 (ix3 b v m)
      = (∑ ci : Fin 3, tap9 x0 x2 ⟨b.val * 32 + v.val, by omega⟩ ⟨m.val / 16, by omega⟩ ⟨m.val % 16, by omega⟩ ci) + x3 (ix1 0) := by
  rw [Fin.sum_univ_three, ← conv_a, ← conv_b, ← conv_c]
  generalize h : val_main_v189 (F := Ideal) x0 x2 = z
  pointwise [val_main_v190, val_main_v191, val_main_v192, val_main_v193]
  rw [h]

end Cert.ReferenceIdeal.Hand
-- ==== Proof.VRef.lean ====
module

public import proofs.«01_k».proof.Proof.VNbr
public import proofs.«01_k».proof.Proof.VConv

@[expose] public section

/-! The reference at an entry: the neighbours' weights, the rows before normalising, and the normalised rows. -/

set_option maxRecDepth 16384

noncomputable section

namespace Cert.ReferenceIdeal.Hand

open Cert.ReferenceIdeal Cert.ReferenceIdeal.Gen Cert.ReferenceIdeal.Read Cert.Hand
open Idealize.ShloMosaic Idealize.ShloMosaic.TcCoe Idealize.SL.Sem

section Weights
variable (x1 : FVec Ideal S32x3 .f32) (x4 : FVec Ideal S10x10 .f32) (x5 : FVec Ideal S10 .f32) (x6 : FVec Ideal S10x10 .f32) (x7 : FVec Ideal S10 .f32) (x8 : FVec Ideal S1x10 .f32) (x9 : FVec Ideal S1 .f32)
variable (Vr : Fin 32 → Fin 3 → ℝ) (hV : ∀ v x, x1 (ix2 v x) = ((Vr v x : ℝ) : EReal))
include hV

/-- The ten features of a neighbour, in four groups. -/
theorem nearest_at (b : Fin 512) (v : Fin 32) (k : Fin 5) (x : Fin 3) :
    val_main_v225 (F := Ideal) x1 (ix4 b v k x) = (Vr (nbr Vr v 0) x : EReal) := by
  have h := near_at x1 Vr hV b v 0 x
  pointwise [val_main_v223, val_main_v224, val_main_v225]
  exact h

theorem w1_at (b : Fin 512) (v : Fin 32) (k : Fin 5) (o : Fin 10) :
    val_main_v238 (F := Ideal) x1 x4 x5 (ix4 b v k o)
      = lay1 (fun o i => x4 (ix2 o i)) (fun o => x5 (ix1 o)) (fun x => (Vr (nbr Vr v 0) x : EReal)) (fun x => (Vr (nbr Vr v k.val) x : EReal)) o := by
  have hp : ∀ x, val_main_v225 (F := Ideal) x1 (ix4 b v k x) = (Vr (nbr Vr v 0) x : EReal) := nearest_at x1 Vr hV b v k
  have hq : ∀ x, val_main_v222 (F := Ideal) x1 (ix4 b v k x) = (Vr (nbr Vr v k.val) x : EReal) := near_at x1 Vr hV b v k
  pointwise [val_main_cst_5, val_main_cst_6, val_main_v226, val_main_v227, val_main_v228, val_main_v229, val_main_v230, val_main_v231, val_main_v232, val_main_v233, val_main_v234, val_main_v235, val_main_v236, val_main_v237, val_main_v238]
  simp only [hp, hq]
  simp only [lay1, Fin.sum_univ_succ, Fin.sum_univ_zero]
  simp [add_assoc]

theorem w_at (b : Fin 512) (v : Fin 32) (k : Fin 5) :
    val_main_v250 (F := Ideal) x1 x4 x5 x6 x7 x8 x9 (ix4 b v k 0)
      = mlp (fun o i => x4 (ix2 o i)) (fun o => x5 (ix1 o)) (fun o i => x6 (ix2 o i)) (fun o => x7 (ix1 o)) (fun o => x8 (ix2 0 o)) (x9 (ix1 0))
          (fun x => (Vr (nbr Vr v 0) x : EReal)) (fun x => (Vr (nbr Vr v k.val) x : EReal)) := by
  have h1 : ∀ o, val_main_v238 (F := Ideal) x1 x4 x5 (ix4 b v k o)
      = lay1 (fun o i => x4 (ix2 o i)) (fun o => x5 (ix1 o)) (fun x => (Vr (nbr Vr v 0) x : EReal)) (fun x => (Vr (nbr Vr v k.val) x : EReal)) o :=
    w1_at x1 x4 x5 Vr hV b v k
  pointwise [val_main_call0_cst, val_main_call0_v0, val_main_call1_cst, val_main_call1_v0, val_main_v239, val_main_v240, val_main_v241, val_main_v242, val_main_v243, val_main_v244, val_main_v245, val_main_v246, val_main_v247, val_main_v248, val_main_v249, val_main_v250]
  simp only [h1, mlp]

end Weights

/-- The reference's normalisation of one column: mean, biased variance, scale and shift. -/
def normF (f : Fin 16384 → EReal) (ga be : EReal) (y : Fin 16384) : EReal :=
  Ideal.div (f y - Ideal.div (∑ x, f x) (Ideal.ofBits FTy.f32 1182793728#32))
    (Ideal.sqrt
      ((if 0 < Ideal.ofBits FTy.f32 1182793728#32 - FloatOps.sitofp (F := Ideal) FTy.f32 (0#32) then
          Ideal.div
            (∑ x, (f x - Ideal.div (∑ x, f x) (Ideal.ofBits FTy.f32 1182793728#32)) *
              (f x - Ideal.div (∑ x, f x) (Ideal.ofBits FTy.f32 1182793728#32)))
            (Ideal.ofBits FTy.f32 1182793728#32 - FloatOps.sitofp (F := Ideal) FTy.f32 (0#32))
        else id (constant (F := Ideal) S_ FTy.f32 2143289344#32) ix0) +
        Ideal.ofBits FTy.f32 925353388#32)) * ga + be

section Rows
variable (x0 : FVec Ideal S16384x3x34x18 .f32) (x1 : FVec Ideal S32x3 .f32) (x2 : FVec Ideal S1x3x3x3 .f32) (x3 : FVec Ideal S1 .f32) (x4 : FVec Ideal S10x10 .f32) (x5 : FVec Ideal S10 .f32) (x6 : FVec Ideal S10x10 .f32) (x7 : FVec Ideal S10 .f32) (x8 : FVec Ideal S1x10 .f32) (x9 : FVec Ideal S1 .f32) (x10 : FVec Ideal S512x512 .f32) (x11 : FVec Ideal S512 .f32)

/-- The rows before normalising, over the weights and the gathered features. -/
theorem row_at (y : Fin 16384) (o : Fin 512) :
    val_main_v260 (F := Ideal) x0 x1 x2 x3 x4 x5 x6 x7 x8 x9 x10 x11 (ix2 y o)
      = max (∑ m, (∑ k, val_main_v250 (F := Ideal) x1 x4 x5 x6 x7 x8 x9 (ix4 ⟨y.val / 32, by omega⟩ ⟨y.val % 32, by omega⟩ k 0) *
          val_main_v215 (F := Ideal) x0 x1 x2 x3 (ix4 ⟨y.val / 32, by omega⟩ ⟨y.val % 32, by omega⟩ k m)) * x10 (ix2 o m) + x11 (ix1 o)) 0 := by
  pointwise [val_main_cst_7, val_main_call2_cst, val_main_call2_v0, val_main_v251, val_main_v252, val_main_v253, val_main_v254, val_main_v255, val_main_v256, val_main_v257, val_main_v258, val_main_v259, val_main_v260]

theorem out_at (x12 : FVec Ideal S512 .f32) (x13 : FVec Ideal S512 .f32) (y : Fin 16384) (o : Fin 512) :
    val_main_v280 (F := Ideal) x0 x1 x2 x3 x4 x5 x6 x7 x8 x9 x10 x11 x12 x13 (ix3 y 0 o)
      = normF (fun y => val_main_v260 (F := Ideal) x0 x1 x2 x3 x4 x5 x6 x7 x8 x9 x10 x11 (ix2 y o)) (x12 (ix1 o)) (x13 (ix1 o)) y := by
  pointwise [val_main_cst_8, val_main_cst_9, val_main_c_10, val_main_cst_11, val_main_call3_cst, val_main_call3_cst_0, val_main_call3_cst_1, val_main_call3_cst_2, val_main_call3_cst_3, val_main_call3_cst_4,
    val_main_call3_call0_v0, val_main_call3_call0_v1, val_main_call3_v0, val_main_call3_v1, val_main_call3_v2, val_main_call3_v3, val_main_call3_v4, val_main_call3_v5, val_main_call3_v6, val_main_call3_v7, val_main_call3_v8, val_main_call3_v9, val_main_call3_v10, val_main_call3_v11, val_main_call3_v12, val_main_v261, val_main_v262, val_main_v263, val_main_v264, val_main_v265, val_main_v266, val_main_v267, val_main_v268, val_main_v269, val_main_v270, val_main_v271, val_main_v272, val_main_v273, val_main_v274, val_main_v275, val_main_v276, val_main_v277, val_main_v278, val_main_v279, val_main_v280]
  rfl

end Rows

end Cert.ReferenceIdeal.Hand
-- ==== Proof.VRound.lean ====
module

public import proofs.«01_k».proof.Proof.IRegion0
public import Idealize.ShloMosaic.Lib.Pointwise

@[expose] public section

/-! # The prep call's values, round by round

    The prep body picks five neighbours of each view in five rounds of the same operations.  Each round's operations are
    named here once; the matrix, the bias and the folded weights the body stores are then these names composed
    (`pay_A`, `pay_bias`). -/

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F] [Named F]

/-- The column numbers. -/
def cols : IVec S32x32 32 := iota .tc S32x32 32 [1] iota_S32x32_d1_w32

/-- Per row, the least column at which `nd` is greatest. -/
def rIdx (nd : FVec F S32x32 .f32) : IVec S32x1 32 :=
  shapeCast S32x1 (multiReductionI .minsi [1] S32 (select (cmpf .oge nd (broadcastTo S32x32
    (shapeCast S32x1 (multiReduction .maximumf [1] S32 nd 0xFF800000#32 reduces_S32x32_S32_2 (.inl rfl) rfl) shapeCasts_S32_S32x1)
    broadcasts_S32x1_S32x32)) cols (broadcast S32x32 1073741824#32)) 2147483647#32 reduces_S32x32_S32_2 rfl) shapeCasts_S32_S32x1

/-- One in the picked column of each row, zero elsewhere. -/
def rHot (ix : IVec S32x1 32) : FVec F S32x32 .f32 :=
  select (cmpi .eq cols (broadcastTo S32x32 ix broadcasts_S32x1_S32x32)) (broadcast S32x32 (Scalar.ofBits .f32 0x3F800000#32))
    (broadcast S32x32 (Scalar.ofBits .f32 0x00000000#32))

/-- The row with its picked entry masked. -/
def rMask (ix : IVec S32x1 32) (nd : FVec F S32x32 .f32) : FVec F S32x32 .f32 :=
  select (cmpi .eq cols (broadcastTo S32x32 ix broadcasts_S32x1_S32x32)) (broadcast S32x32 (Named.named κ "mask" 0xF149F2CA#32)) nd

/-- The picked neighbour's coordinates. -/
def rVk (oh : FVec F S32x32 .f32) (V : FVec F S32x3 .f32) : FVec F S32x3 .f32 :=
  matmul dot_S32x32_S32x3_S32x3_1_0_0_1_n_n (some .fp32) oh V (constant S32x3 .f32 0x00000000#32)

/-- The distance's root, per row. -/
def rNrm (v0 vk : FVec F S32x3 .f32) : FVec F S32x1 .f32 :=
  sqrt (shapeCast S32x1 (multiReduction .add [1] S32 (mulf (subf v0 vk) (subf v0 vk)) 0x00000000#32 reduces_S32x3_S32 (.inl rfl) rfl)
    shapeCasts_S32_S32x1)

/-- The first layer before its activation. -/
def rH1 (v0 vk : FVec F S32x3 .f32) (w1a w1b w1c : FVec F S3x10 .f32) (w1d b1 : FVec F S1x10 .f32) : FVec F S32x10 .f32 :=
  addf (addf (addf (addf
    (matmul dot_S32x3_S3x10_S32x10_1_0_0_1_n_n (some .fp32) v0 (shapeCast S3x10 w1a shapeCasts_S3x10_S3x10) (constant S32x10 .f32 0x00000000#32))
    (matmul dot_S32x3_S3x10_S32x10_1_0_0_1_n_n (some .fp32) vk (shapeCast S3x10 w1b shapeCasts_S3x10_S3x10) (constant S32x10 .f32 0x00000000#32)))
    (matmul dot_S32x3_S3x10_S32x10_1_0_0_1_n_n (some .fp32) (subf v0 vk) (shapeCast S3x10 w1c shapeCasts_S3x10_S3x10) (constant S32x10 .f32 0x00000000#32)))
    (mulf (broadcastTo S32x10 (rNrm v0 vk) broadcasts_S32x1_S32x10)
      (broadcastTo S32x10 (shapeCast S1x10 w1d shapeCasts_S1x10_S1x10) broadcasts_S1x10_S32x10)))
    (broadcastTo S32x10 (shapeCast S1x10 b1 shapeCasts_S1x10_S1x10) broadcasts_S1x10_S32x10)

/-- The neighbour's weight, from the first layer's values. -/
def rW (h1 : FVec F S32x10 .f32) (w2 : FVec F S10x10 .f32) (b2 : FVec F S1x10 .f32) (w3 : FVec F S10x1 .f32) (b3 : FVec F S1x1 .f32) :
    FVec F S32x1 .f32 :=
  addf (matmul dot_S32x10_S10x1_S32x1_1_0_0_1_n_n (some .fp32)
    (maximumf (addf (matmul dot_S32x10_S10x10_S32x10_1_0_0_1_n_n (some .fp32)
      (maximumf h1 (broadcast S32x10 (Scalar.ofBits .f32 0x00000000#32)))
      (shapeCast S10x10 w2 shapeCasts_S10x10_S10x10) (constant S32x10 .f32 0x00000000#32))
      (broadcastTo S32x10 (shapeCast S1x10 b2 shapeCasts_S1x10_S1x10) broadcasts_S1x10_S32x10))
      (broadcast S32x10 (Scalar.ofBits .f32 0x00000000#32)))
    (shapeCast S10x1 w3 shapeCasts_S10x1_S10x1) (constant S32x1 .f32 0x00000000#32))
    (broadcastTo S32x1 (shapeCast S1x1 b3 shapeCasts_S1x1_S1x1) broadcasts_S1x1_S32x1)

/-- The rows of negated distances after `k` rounds. -/
def ndR (V : FVec F S32x3 .f32) : ℕ → FVec F S32x32 .f32
  | 0 => k0_pay2 V
  | k + 1 => rMask (rIdx (ndR V k)) (ndR V k)

/-- Round `k`'s one-hot rows. -/
def hotR (V : FVec F S32x3 .f32) (k : ℕ) : FVec F S32x32 .f32 := rHot (rIdx (ndR V k))

/-- Round `k`'s neighbours. -/
def vkR (V : FVec F S32x3 .f32) (k : ℕ) : FVec F S32x3 .f32 := rVk (hotR V k) V

section Prep
variable (x0 : Vec F S32x3 .f32) (x1 : Vec F S1x27 .f32) (x2 : Vec F S1x1 .f32) (x3 : Vec F S10x10 .f32) (x4 : Vec F S1x10 .f32)
  (x5 : Vec F S10x10 .f32) (x6 : Vec F S1x10 .f32) (x7 : Vec F S10x1 .f32) (x8 : Vec F S1x1 .f32) (x9 : Vec F S512x512 .f32)
  (x10 : Vec F S1x512 .f32)

/-- Round `k`'s weights. -/
def wkR (k : ℕ) : FVec F S32x1 .f32 :=
  rW (rH1 (vkR x0 0) (vkR x0 k) (View.ld x3 r0_3) (View.ld x3 r0_4) (View.ld x3 r0_5) (View.ld x3 r0_6) (View.ld x4 r0_1))
    (View.ld x5 r0_7) (View.ld x6 r0_1) (View.ld x7 r0_8) (View.ld x8 r0_2)

/-- The neighbour matrix after `k` rounds. -/
def aR : ℕ → FVec F S32x32 .f32
  | 0 => broadcast S32x32 (Scalar.ofBits .f32 0x00000000#32)
  | k + 1 => addf (aR k) (mulf (broadcastTo S32x32 (wkR x0 x3 x4 x5 x6 x7 x8 k) broadcasts_S32x1_S32x32) (hotR x0 k))

/-- What the body stores to the matrix: five rounds. -/
theorem pay_A : k0_pay38 (k0_pay75 x0 x1 x2 x3 x4 x5 x6 x7 x8 x9 x10) (k0_pay76 x0 x1 x2 x3 x4 x5 x6 x7 x8 x9 x10) (k0_pay77 x0 x1 x2 x3 x4 x5 x6 x7 x8 x9 x10) (k0_pay85 x0 x1 x2 x3 x4 x5 x6 x7 x8 x9 x10) (k0_pay86 x0 x1 x2 x3 x4 x5 x6 x7 x8 x9 x10) (k0_pay87 x0 x1 x2 x3 x4 x5 x6 x7 x8 x9 x10) (k0_pay88 x0 x1 x2 x3 x4 x5 x6 x7 x8 x9 x10) (k0_pay89 x0 x1 x2 x3 x4 x5 x6 x7 x8 x9 x10) (k0_pay90 x0 x1 x2 x3 x4 x5 x6 x7 x8 x9 x10) (View.ld x3 r0_4) (View.ld x3 r0_5) (View.ld x3 r0_6) (View.ld x5 r0_7) (View.ld x7 r0_8)
    = aR (View.ld x0 r0_0) x3 x4 x5 x6 x7 x8 5 := rfl

end Prep

end Cert.KernelIdeal.Hand
-- ==== Proof.VWcl.lean ====
module

public import proofs.«01_k».proof.Proof.VRound

@[expose] public section

/-! # The prep call's bias and folded weights

    The folded weights start from the convolution as a matrix: tap `k` puts its weight where the image position `L` is the
    tap's position for the feature `m`.  The 27 taps are one operation at 27 numbers. -/

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F] [Named F]

theorem inb_tap (k : ℕ) : ∀ a, (![0, k % 27] : Fin 2 → Nat) a + S1x1.size a ≤ S1x27.size a := by
  intro a
  have := Nat.mod_lt k (by decide : 0 < 27)
  match a with
  | 0 => exact Nat.le_refl 1
  | 1 => exact this

/-- Tap `k`'s place in the weights. -/
abbrev rTap (k : ℕ) : Rect S1x27 := Rect.unit (s := S1x27) ![0, k % 27] S1x1.size (inb_tap k)

/-- The image positions. -/
def poss : IVec S1836x1 32 := iota .tc S1836x1 32 [0] iota_S1836x1_d0_w32

/-- The feature's column. -/
def fcol : IVec S1x512 32 := k0_pay44 (Scalar.select (Scalar.cmpi .eq 16#32 0#32) 1#32 16#32) k0_pay43

/-- The image position tap `k` reads for each feature. -/
def tapPos (k : ℕ) : IVec S1x512 32 :=
  addi (addi (broadcast S1x512 (BitVec.ofNat 32 (612 * (k / 9)))) (muli (addi k0_pay42 (broadcast S1x512 (BitVec.ofNat 32 (k / 3 % 3))))
    (broadcast S1x512 18#32))) (addi fcol (broadcast S1x512 (BitVec.ofNat 32 (k % 3))))

/-- Tap `k`'s part of the convolution's matrix. -/
def tapMat (x1 : Vec F S1x27 .f32) (k : ℕ) : FVec F S1836x512 .f32 :=
  select (cmpi .eq (broadcastTo S1836x512 poss broadcasts_S1836x1_S1836x512) (broadcastTo S1836x512 (tapPos k) broadcasts_S1x512_S1836x512))
    (broadcastTo S1836x512 (shapeCast S1x1 (shapeCast S1x1 (View.ld x1 (rTap k)) shapeCasts_S1x1_S1x1) shapeCasts_S1x1_S1x1)
      broadcasts_S1x1_S1836x512) (broadcast S1836x512 (Scalar.ofBits .f32 0x00000000#32))

/-- The first `k` taps' matrix. -/
def convR (x1 : Vec F S1x27 .f32) : ℕ → FVec F S1836x512 .f32
  | 0 => broadcast S1836x512 (Scalar.ofBits .f32 0x00000000#32)
  | k + 1 => addf (convR x1 k) (tapMat x1 k)

/-- The folded weights from the convolution's matrix and the last layer's. -/
def wclR (x1 : Vec F S1x27 .f32) (lw : FVec F S512x512 .f32) : FVec F S1836x512 .f32 :=
  matmul dot_S1836x512_S512x512_S1836x512_1_1_0_0_n_n none (convR x1 27) lw (constant S1836x512 .f32 0x00000000#32)

/-- The bias: the convolution's constant through the neighbour matrix and the last layer, and the last layer's own. -/
def biasR (A : FVec F S32x32 .f32) (cb : FVec F S1x1 .f32) (lw : FVec F S512x512 .f32) (lb : FVec F S1x512 .f32) : FVec F S32x512 .f32 :=
  addf (mulf (broadcastTo S32x512 (mulf (broadcastTo S32x1 (shapeCast S1x1 cb shapeCasts_S1x1_S1x1) broadcasts_S1x1_S32x1)
      (shapeCast S32x1 (multiReduction .add [1] S32 A 0x00000000#32 reduces_S32x32_S32_2 (.inl rfl) rfl) shapeCasts_S32_S32x1))
        broadcasts_S32x1_S32x512)
      (broadcastTo S32x512 (matmul dot_S1x512_S512x512_S1x512_1_1_0_0_n_n (some .fp32) (broadcast S1x512 (Scalar.ofBits .f32 0x3F800000#32)) lw
        (constant S1x512 .f32 0x00000000#32)) broadcasts_S1x512_S32x512))
    (broadcastTo S32x512 (shapeCast S1x512 lb shapeCasts_S1x512_S1x512) broadcasts_S1x512_S32x512)

section Prep
variable (x0 : Vec F S32x3 .f32) (x1 : Vec F S1x27 .f32) (x2 : Vec F S1x1 .f32) (x3 : Vec F S10x10 .f32) (x4 : Vec F S1x10 .f32)
  (x5 : Vec F S10x10 .f32) (x6 : Vec F S1x10 .f32) (x7 : Vec F S10x1 .f32) (x8 : Vec F S1x1 .f32) (x9 : Vec F S512x512 .f32)
  (x10 : Vec F S1x512 .f32)

/-- What the body stores to the bias. -/
theorem pay_bias : k0_pay41 (k0_pay39 (k0_pay75 x0 x1 x2 x3 x4 x5 x6 x7 x8 x9 x10) (k0_pay76 x0 x1 x2 x3 x4 x5 x6 x7 x8 x9 x10) (k0_pay77 x0 x1 x2 x3 x4 x5 x6 x7 x8 x9 x10) (k0_pay85 x0 x1 x2 x3 x4 x5 x6 x7 x8 x9 x10) (k0_pay86 x0 x1 x2 x3 x4 x5 x6 x7 x8 x9 x10) (k0_pay87 x0 x1 x2 x3 x4 x5 x6 x7 x8 x9 x10) (k0_pay88 x0 x1 x2 x3 x4 x5 x6 x7 x8 x9 x10) (k0_pay89 x0 x1 x2 x3 x4 x5 x6 x7 x8 x9 x10) (k0_pay90 x0 x1 x2 x3 x4 x5 x6 x7 x8 x9 x10) (View.ld x3 r0_4) (View.ld x3 r0_5) (View.ld x3 r0_6) (View.ld x5 r0_7) (View.ld x7 r0_8)) (k0_pay40 (F := F)) (View.ld x9 r0_10) (constant S1x512 .f32 0x00000000#32) (View.ld x2 r0_2) (View.ld x10 r0_11)
    = biasR (aR (View.ld x0 r0_0) x3 x4 x5 x6 x7 x8 5) (View.ld x2 r0_2) (View.ld x9 r0_10) (View.ld x10 r0_11) := rfl

/-- What the body stores to the folded weights. -/
theorem pay_wcl : k0_pay1 (k0_pay72 (k0_pay91 x0 x1 x2 x3 x4 x5 x6 x7 x8 x9 x10) (k0_pay92 x0 x1 x2 x3 x4 x5 x6 x7 x8 x9 x10) (k0_pay94 x0 x1 x2 x3 x4 x5 x6 x7 x8 x9 x10) (k0_pay70 (k0_pay91 x0 x1 x2 x3 x4 x5 x6 x7 x8 x9 x10) (k0_pay92 x0 x1 x2 x3 x4 x5 x6 x7 x8 x9 x10) (k0_pay94 x0 x1 x2 x3 x4 x5 x6 x7 x8 x9 x10) (k0_pay67 (k0_pay91 x0 x1 x2 x3 x4 x5 x6 x7 x8 x9 x10) (k0_pay92 x0 x1 x2 x3 x4 x5 x6 x7 x8 x9 x10) (k0_pay94 x0 x1 x2 x3 x4 x5 x6 x7 x8 x9 x10) (k0_pay65 (k0_pay91 x0 x1 x2 x3 x4 x5 x6 x7 x8 x9 x10) (k0_pay92 x0 x1 x2 x3 x4 x5 x6 x7 x8 x9 x10) (k0_pay94 x0 x1 x2 x3 x4 x5 x6 x7 x8 x9 x10) (k0_pay62 (k0_pay91 x0 x1 x2 x3 x4 x5 x6 x7 x8 x9 x10) (k0_pay92 x0 x1 x2 x3 x4 x5 x6 x7 x8 x9 x10) (k0_pay94 x0 x1 x2 x3 x4 x5 x6 x7 x8 x9 x10) (k0_pay60 (k0_pay91 x0 x1 x2 x3 x4 x5 x6 x7 x8 x9 x10) (k0_pay92 x0 x1 x2 x3 x4 x5 x6 x7 x8 x9 x10) (k0_pay94 x0 x1 x2 x3 x4 x5 x6 x7 x8 x9 x10) (k0_pay57 (k0_pay91 x0 x1 x2 x3 x4 x5 x6 x7 x8 x9 x10) (k0_pay92 x0 x1 x2 x3 x4 x5 x6 x7 x8 x9 x10) (k0_pay94 x0 x1 x2 x3 x4 x5 x6 x7 x8 x9 x10) (k0_pay54 (k0_pay91 x0 x1 x2 x3 x4 x5 x6 x7 x8 x9 x10) (k0_pay92 x0 x1 x2 x3 x4 x5 x6 x7 x8 x9 x10) (k0_pay94 x0 x1 x2 x3 x4 x5 x6 x7 x8 x9 x10) (k0_pay51 (k0_pay91 x0 x1 x2 x3 x4 x5 x6 x7 x8 x9 x10) (k0_pay92 x0 x1 x2 x3 x4 x5 x6 x7 x8 x9 x10) (k0_pay94 x0 x1 x2 x3 x4 x5 x6 x7 x8 x9 x10) (k0_pay49 (k0_pay91 x0 x1 x2 x3 x4 x5 x6 x7 x8 x9 x10) (k0_pay92 x0 x1 x2 x3 x4 x5 x6 x7 x8 x9 x10) (k0_pay94 x0 x1 x2 x3 x4 x5 x6 x7 x8 x9 x10) (k0_pay47 (k0_pay91 x0 x1 x2 x3 x4 x5 x6 x7 x8 x9 x10) (k0_pay92 x0 x1 x2 x3 x4 x5 x6 x7 x8 x9 x10) (k0_pay94 x0 x1 x2 x3 x4 x5 x6 x7 x8 x9 x10) (k0_pay45 (k0_pay91 x0 x1 x2 x3 x4 x5 x6 x7 x8 x9 x10) (k0_pay92 x0 x1 x2 x3 x4 x5 x6 x7 x8 x9 x10) (Scalar.select (Scalar.cmpi .eq 16#32 0#32) 1#32 16#32) (k0_pay93 x0 x1 x2 x3 x4 x5 x6 x7 x8 x9 x10) (View.ld x1 r0_13)) (k0_pay46 (k0_pay91 x0 x1 x2 x3 x4 x5 x6 x7 x8 x9 x10) (k0_pay92 x0 x1 x2 x3 x4 x5 x6 x7 x8 x9 x10) (Scalar.select (Scalar.cmpi .eq 16#32 0#32) 1#32 16#32) (k0_pay93 x0 x1 x2 x3 x4 x5 x6 x7 x8 x9 x10)) (View.ld x1 r0_14) (View.ld x1 r0_15)) (k0_pay48 (k0_pay91 x0 x1 x2 x3 x4 x5 x6 x7 x8 x9 x10) (k0_pay92 x0 x1 x2 x3 x4 x5 x6 x7 x8 x9 x10) (k0_pay94 x0 x1 x2 x3 x4 x5 x6 x7 x8 x9 x10) (View.ld x1 r0_16)) (View.ld x1 r0_17) (View.ld x1 r0_18)) (k0_pay50 (k0_pay92 x0 x1 x2 x3 x4 x5 x6 x7 x8 x9 x10)) 0#32 (View.ld x1 r0_19) (View.ld x1 r0_20)) (k0_pay52 (k0_pay91 x0 x1 x2 x3 x4 x5 x6 x7 x8 x9 x10)) (k0_pay53 (k0_pay92 x0 x1 x2 x3 x4 x5 x6 x7 x8 x9 x10) (k0_pay94 x0 x1 x2 x3 x4 x5 x6 x7 x8 x9 x10)) (View.ld x1 r0_21) (View.ld x1 r0_22)) (k0_pay55 (k0_pay91 x0 x1 x2 x3 x4 x5 x6 x7 x8 x9 x10) (k0_pay92 x0 x1 x2 x3 x4 x5 x6 x7 x8 x9 x10) (k0_pay94 x0 x1 x2 x3 x4 x5 x6 x7 x8 x9 x10)) (Scalar.ofBits .f32 0x00000000#32) (k0_pay56 (View.ld x1 r0_23)) (View.ld x1 r0_24) (View.ld x1 r0_25)) (k0_pay58 (k0_pay92 x0 x1 x2 x3 x4 x5 x6 x7 x8 x9 x10)) k0_pay59 (View.ld x1 r0_26) (View.ld x1 r0_27)) (k0_pay61 (k0_pay92 x0 x1 x2 x3 x4 x5 x6 x7 x8 x9 x10) (k0_pay94 x0 x1 x2 x3 x4 x5 x6 x7 x8 x9 x10)) (View.ld x1 r0_28) (View.ld x1 r0_29)) (k0_pay63 (k0_pay91 x0 x1 x2 x3 x4 x5 x6 x7 x8 x9 x10) (k0_pay92 x0 x1 x2 x3 x4 x5 x6 x7 x8 x9 x10) (k0_pay94 x0 x1 x2 x3 x4 x5 x6 x7 x8 x9 x10)) (k0_pay64 (View.ld x1 r0_30)) (Scalar.ofBits .f32 0x00000000#32) (View.ld x1 r0_31) (View.ld x1 r0_32)) (k0_pay66 (k0_pay92 x0 x1 x2 x3 x4 x5 x6 x7 x8 x9 x10)) (View.ld x1 r0_33) (View.ld x1 r0_34)) (k0_pay68 (k0_pay92 x0 x1 x2 x3 x4 x5 x6 x7 x8 x9 x10)) k0_pay69 (View.ld x1 r0_35) (View.ld x1 r0_36)) (k0_pay71 (k0_pay91 x0 x1 x2 x3 x4 x5 x6 x7 x8 x9 x10) (k0_pay92 x0 x1 x2 x3 x4 x5 x6 x7 x8 x9 x10) (k0_pay94 x0 x1 x2 x3 x4 x5 x6 x7 x8 x9 x10)) (View.ld x1 r0_37) (View.ld x1 r0_38) (View.ld x1 r0_39)) (View.ld x9 r0_10)
    = wclR x1 (View.ld x9 r0_10) := rfl

end Prep

end Cert.KernelIdeal.Hand
-- ==== Proof.VPrep.lean ====
module

public import proofs.«01_k».proof.Proof.VWcl
public import proofs.«01_k».proof.Proof.VSpec

@[expose] public section

/-! # The prep call's values at an entry

    Over the extended reals: the neighbour matrix is the sum of the five weights at their neighbours' columns (`aR_at`). -/

set_option maxRecDepth 16384

noncomputable section

namespace Cert.KernelIdeal.Hand

open Cert.KernelIdeal Cert.KernelIdeal.Gen Cert.Hand
open Idealize.ShloMosaic Idealize.ShloMosaic.TcCoe Idealize.SL.Sem

theorem rIdx_at (nd : FVec Ideal S32x32 .f32) (v : Fin 32) : rIdx nd (ix2 v 0) = BitVec.ofNat 32 (pick fun u => nd (ix2 v u)).val := by
  pointwise [rIdx, cols]
  exact fold_pick (fun u => nd (ix2 v u)) _ ofBits_neg_inf

theorem eq_word : ∀ a b : Fin 32, (IntOp.cmpi CmpIPredicate.eq (BitVec.ofNat 32 a.val) (BitVec.ofNat 32 b.val)) = BitVec.ofBool (decide (a = b)) := by
  decide

theorem select_word {α : Type} (a b : Fin 32) (x y : α) :
    Scalar.select (IntOp.cmpi CmpIPredicate.eq (BitVec.ofNat 32 a.val) (BitVec.ofNat 32 b.val)) x y = if a = b then x else y := by
  rw [eq_word]
  by_cases h : a = b
  · rw [if_pos h, decide_eq_true h]; rfl
  · rw [if_neg h, decide_eq_false h]; rfl

theorem rHot_at (ix : IVec S32x1 32) (s : Fin 32 → Fin 32) (hs : ∀ v, ix (ix2 v 0) = BitVec.ofNat 32 (s v).val) (v u : Fin 32) :
    rHot (F := Ideal) ix (ix2 v u) = if u = s v then (1 : EReal) else 0 := by
  pointwise [rHot, cols]
  rw [hs]
  exact select_word u (s v) 1 0

theorem rMask_at (ix : IVec S32x1 32) (s : Fin 32 → Fin 32) (hs : ∀ v, ix (ix2 v 0) = BitVec.ofNat 32 (s v).val)
    (nd : FVec Ideal S32x32 .f32) (v u : Fin 32) :
    rMask (F := Ideal) ix nd (ix2 v u) = if u = s v then (⊥ : EReal) else nd (ix2 v u) := by
  pointwise [rMask, cols]
  rw [hs]
  exact select_word u (s v) _ _

theorem rVk_at (a : FVec Ideal S32x32 .f32) (s : Fin 32 → Fin 32) (ha : ∀ v u, a (ix2 v u) = if u = s v then (1 : EReal) else 0)
    (V : FVec Ideal S32x3 .f32) (v : Fin 32) (x : Fin 3) : rVk (F := Ideal) a V (ix2 v x) = V (ix2 (s v) x) := by
  pointwise [rVk]
  refine (Finset.sum_congr rfl fun u _ => by rw [ha]).trans (sum_hot (s v) fun u => V (ix2 u x))

/-- The negated distances. -/
theorem nd_at (V : FVec Ideal S32x3 .f32) (Vr : Fin 32 → Fin 3 → ℝ) (hV : ∀ v x, V (ix2 v x) = ((Vr v x : ℝ) : EReal)) (v u : Fin 32) :
    k0_pay2 (F := Ideal) V (ix2 v u) = ndE Vr v u := by
  pointwise [k0_pay2]
  rw [Finset.sum_congr rfl fun x _ => select_word x u (∑ y : Fin 3, V (ix2 x y) * V (ix2 x y)) 0, Finset.sum_ite_eq' Finset.univ u,
    if_pos (Finset.mem_univ u), ofBits_two]
  simp only [hV, ndE, ndS, EReal.coe_sub, EReal.coe_mul, coe_sum]

/-- The rows after `k` rounds. -/
theorem ndR_at (V : FVec Ideal S32x3 .f32) (Vr : Fin 32 → Fin 3 → ℝ) (hV : ∀ v x, V (ix2 v x) = ((Vr v x : ℝ) : EReal)) (k : ℕ) (v u : Fin 32) :
    ndR (F := Ideal) V k (ix2 v u) = msk (ndE Vr v) k u := by
  induction k generalizing v u with
  | zero => exact nd_at V Vr hV v u
  | succ k ih =>
    have hs : ∀ v, rIdx (ndR (F := Ideal) V k) (ix2 v 0) = BitVec.ofNat 32 (sel (ndE Vr v) k).val := fun v => by
      rw [rIdx_at]
      have : (fun u => ndR (F := Ideal) V k (ix2 v u)) = msk (ndE Vr v) k := funext fun u => ih v u
      rw [this]; rfl
    refine (rMask_at _ (fun v => sel (ndE Vr v) k) hs _ v u).trans ?_
    rw [ih, msk_succ]

theorem hotR_at (V : FVec Ideal S32x3 .f32) (Vr : Fin 32 → Fin 3 → ℝ) (hV : ∀ v x, V (ix2 v x) = ((Vr v x : ℝ) : EReal)) (k : ℕ) (v u : Fin 32) :
    hotR (F := Ideal) V k (ix2 v u) = if u = nbr Vr v k then (1 : EReal) else 0 := by
  refine rHot_at _ (fun v => nbr Vr v k) (fun v => ?_) v u
  rw [rIdx_at]
  have : (fun u => ndR (F := Ideal) V k (ix2 v u)) = msk (ndE Vr v) k := funext fun u => ndR_at V Vr hV k v u
  rw [this]; rfl

theorem vkR_at (V : FVec Ideal S32x3 .f32) (Vr : Fin 32 → Fin 3 → ℝ) (hV : ∀ v x, V (ix2 v x) = ((Vr v x : ℝ) : EReal)) (k : ℕ) (v : Fin 32) (x : Fin 3) :
    vkR (F := Ideal) V k (ix2 v x) = V (ix2 (nbr Vr v k) x) :=
  rVk_at _ (fun v => nbr Vr v k) (hotR_at V Vr hV k) V v x

/-- The first layer at an entry. -/
theorem rH1_at (v0 vk : FVec Ideal S32x3 .f32) (x3 : Vec Ideal S10x10 .f32) (x4 : Vec Ideal S1x10 .f32) (v : Fin 32) (o : Fin 10) :
    rH1 (F := Ideal) v0 vk (View.ld x3 r0_3) (View.ld x3 r0_4) (View.ld x3 r0_5) (View.ld x3 r0_6) (View.ld x4 r0_1) (ix2 v o)
      = lay1 (fun o i => (x3 : FVec Ideal S10x10 .f32) (ix2 i o)) (fun o => (x4 : FVec Ideal S1x10 .f32) (ix2 0 o))
          (fun x => v0 (ix2 v x)) (fun x => vk (ix2 v x)) o := by
  pointwise [rH1, rNrm, lay1]

theorem rW_at (h1 : FVec Ideal S32x10 .f32) (x5 : Vec Ideal S10x10 .f32) (x6 : Vec Ideal S1x10 .f32) (x7 : Vec Ideal S10x1 .f32)
    (x8 : Vec Ideal S1x1 .f32) (v : Fin 32) :
    rW (F := Ideal) h1 (View.ld x5 r0_7) (View.ld x6 r0_1) (View.ld x7 r0_8) (View.ld x8 r0_2) (ix2 v 0)
      = (∑ x : Fin 10, max ((∑ y : Fin 10, max (h1 (ix2 v y)) 0 * (x5 : FVec Ideal S10x10 .f32) (ix2 y x))
          + (x6 : FVec Ideal S1x10 .f32) (ix2 0 x)) 0 * (x7 : FVec Ideal S10x1 .f32) (ix2 x 0)) + (x8 : FVec Ideal S1x1 .f32) (ix2 0 0) := by
  pointwise [rW]

section Prep
variable (x0 : Vec Ideal S32x3 .f32) (x3 : Vec Ideal S10x10 .f32) (x4 : Vec Ideal S1x10 .f32)
  (x5 : Vec Ideal S10x10 .f32) (x6 : Vec Ideal S1x10 .f32) (x7 : Vec Ideal S10x1 .f32) (x8 : Vec Ideal S1x1 .f32)

/-- The weight of neighbour `k` of view `v`, from the windows' contents. -/
def wK (Vr : Fin 32 → Fin 3 → ℝ) (v : Fin 32) (k : ℕ) : EReal :=
  mlp (fun o i => (x3 : FVec Ideal S10x10 .f32) (ix2 i o)) (fun o => (x4 : FVec Ideal S1x10 .f32) (ix2 0 o))
    (fun o i => (x5 : FVec Ideal S10x10 .f32) (ix2 i o)) (fun o => (x6 : FVec Ideal S1x10 .f32) (ix2 0 o))
    (fun o => (x7 : FVec Ideal S10x1 .f32) (ix2 o 0)) ((x8 : FVec Ideal S1x1 .f32) (ix2 0 0))
    (fun x => (Vr (nbr Vr v 0) x : EReal)) (fun x => (Vr (nbr Vr v k) x : EReal))

theorem wkR_at (Vr : Fin 32 → Fin 3 → ℝ) (hV : ∀ v x, (x0 : FVec Ideal S32x3 .f32) (ix2 v x) = ((Vr v x : ℝ) : EReal)) (k : ℕ) (v : Fin 32) :
    wkR (F := Ideal) x0 x3 x4 x5 x6 x7 x8 k (ix2 v 0) = wK x3 x4 x5 x6 x7 x8 Vr v k := by
  refine (rW_at _ x5 x6 x7 x8 v).trans ?_
  unfold wK mlp
  refine congrArg₂ (· + ·) (Finset.sum_congr rfl fun x _ => ?_) rfl
  refine congrArg₂ (· * ·) (congrArg (fun t : EReal => max t 0) (congrArg₂ (· + ·) (Finset.sum_congr rfl fun y _ => ?_) rfl)) rfl
  refine congrArg₂ (· * ·) (congrArg (fun t : EReal => max t 0) ?_) rfl
  refine (rH1_at _ _ x3 x4 v y).trans ?_
  have h0 : (fun x => vkR (F := Ideal) x0 0 (ix2 v x)) = fun x => (Vr (nbr Vr v 0) x : EReal) := funext fun x => by rw [vkR_at x0 Vr hV, hV]
  have hk : (fun x => vkR (F := Ideal) x0 k (ix2 v x)) = fun x => (Vr (nbr Vr v k) x : EReal) := funext fun x => by rw [vkR_at x0 Vr hV, hV]
  rw [h0, hk]

/-- The neighbour matrix at an entry. -/
theorem aR_at (Vr : Fin 32 → Fin 3 → ℝ) (hV : ∀ v x, (x0 : FVec Ideal S32x3 .f32) (ix2 v x) = ((Vr v x : ℝ) : EReal)) (k : ℕ) (v u : Fin 32) :
    aR (F := Ideal) x0 x3 x4 x5 x6 x7 x8 k (ix2 v u)
      = ∑ j ∈ Finset.range k, wK x3 x4 x5 x6 x7 x8 Vr v j * (if u = nbr Vr v j then (1 : EReal) else 0) := by
  induction k with
  | zero =>
    rw [Finset.sum_range_zero]
    pointwise [aR]
  | succ k ih =>
    rw [Finset.sum_range_succ, ← ih, ← hotR_at x0 Vr hV k v u, ← wkR_at x0 x3 x4 x5 x6 x7 x8 Vr hV k v]
    generalize hw : wkR (F := Ideal) x0 x3 x4 x5 x6 x7 x8 k = w
    generalize hh : hotR (F := Ideal) x0 k = h
    show addf (aR (F := Ideal) x0 x3 x4 x5 x6 x7 x8 k)
      (mulf (broadcastTo S32x32 (wkR x0 x3 x4 x5 x6 x7 x8 k) broadcasts_S32x1_S32x32) (hotR x0 k)) (ix2 v u) = _
    rw [hw, hh]
    generalize aR (F := Ideal) x0 x3 x4 x5 x6 x7 x8 k = a
    pointwise []

end Prep

/-! ## The bias and the folded weights -/

theorem biasR_at (A : FVec Ideal S32x32 .f32) (cb : Vec Ideal S1x1 .f32) (lw : Vec Ideal S512x512 .f32) (lb : Vec Ideal S1x512 .f32)
    (v : Fin 32) (o : Fin 512) :
    biasR (F := Ideal) A (View.ld cb r0_2) (View.ld lw r0_10) (View.ld lb r0_11) (ix2 v o)
      = ((cb : FVec Ideal S1x1 .f32) (ix2 0 0) * ∑ u : Fin 32, A (ix2 v u)) * (∑ m : Fin 512, (lw : FVec Ideal S512x512 .f32) (ix2 o m))
        + (lb : FVec Ideal S1x512 .f32) (ix2 0 o) := by
  pointwise [biasR]

/-- The position in the image tap `k` reads for feature `m`. -/
def tapAt (k : ℕ) (m : Fin 512) : ℕ := 612 * (k / 9) + (m.val / 16 + k / 3 % 3) * 18 + (m.val % 16 + k % 3)

theorem frow_at : ∀ m : Fin 512, k0_pay42 (ix2 0 m) = BitVec.ofNat 32 (m.val / 16) := by
  intro m
  pointwise [k0_pay42]
  revert m
  decide +kernel

theorem fcol_at : ∀ m : Fin 512, fcol (ix2 0 m) = BitVec.ofNat 32 (m.val % 16) := by
  intro m
  pointwise [fcol, k0_pay43, k0_pay44]
  revert m
  decide +kernel

theorem tapPos_at (k : ℕ) (m : Fin 512) : tapPos k (ix2 0 m) = BitVec.ofNat 32 (tapAt k m) := by
  have h1 := frow_at m
  have h2 := fcol_at m
  pointwise [tapPos]
  rw [h1, h2]
  unfold tapAt IntOp.addi IntOp.muli
  rw [show (18#32 : BitVec 32) = BitVec.ofNat 32 18 from rfl]
  simp only [← BitVec.ofNat_add, ← BitVec.ofNat_mul]

theorem tapAt_lt (k : ℕ) (hk : k < 27) (m : Fin 512) : tapAt k m < 1836 := by
  unfold tapAt
  have := m.isLt
  omega

theorem select_nat {α : Type} (a b : ℕ) (ha : a < 2 ^ 32) (hb : b < 2 ^ 32) (x y : α) :
    Scalar.select (IntOp.cmpi .eq (BitVec.ofNat 32 a) (BitVec.ofNat 32 b)) x y = if a = b then x else y := by
  have h : (BitVec.ofNat 32 a = BitVec.ofNat 32 b) ↔ a = b := by
    constructor
    · intro h
      have := congrArg BitVec.toNat h
      rwa [BitVec.toNat_ofNat, BitVec.toNat_ofNat, Nat.mod_eq_of_lt ha, Nat.mod_eq_of_lt hb] at this
    · rintro rfl; rfl
  unfold Scalar.select IntOp.cmpi
  by_cases hab : a = b
  · simp [hab]
  · rw [if_neg hab]
    have hne : (BitVec.ofNat 32 a == BitVec.ofNat 32 b) = false := by
      rw [beq_eq_false_iff_ne]; exact fun e => hab (h.1 e)
    show (if BitVec.ofBool (BitVec.ofNat 32 a == BitVec.ofNat 32 b) = 1#1 then x else y) = y
    rw [hne]; rfl

theorem tapMat_at (x1 : Vec Ideal S1x27 .f32) (k : ℕ) (hk : k < 27) (L : Fin 1836) (m : Fin 512) :
    tapMat (F := Ideal) x1 k (ix2 L m)
      = if L.val = tapAt k m then (x1 : FVec Ideal S1x27 .f32) (ix2 0 ⟨k, hk⟩) else 0 := by
  have h1 := tapPos_at k m
  have hlt := tapAt_lt k hk m
  pointwise [tapMat, poss]
  rw [h1, select_nat _ _ (by have := L.isLt; omega) (by omega)]
  have e : (⟨k % 27, Nat.mod_lt _ (by decide)⟩ : Fin 27) = ⟨k, hk⟩ := Fin.ext (Nat.mod_eq_of_lt hk)
  rw [← e]

theorem convR_at (x1 : Vec Ideal S1x27 .f32) (k : ℕ) (hk : k ≤ 27) (L : Fin 1836) (m : Fin 512) :
    convR (F := Ideal) x1 k (ix2 L m)
      = ∑ j : Fin k, if L.val = tapAt j.val m then (x1 : FVec Ideal S1x27 .f32) (ix2 0 ⟨j.val, by omega⟩) else 0 := by
  induction k with
  | zero =>
    rw [Fin.sum_univ_zero]
    pointwise [convR]
  | succ k ih =>
    rw [Fin.sum_univ_castSucc]
    refine (congrArg₂ (· + ·) (ih (by omega)) (tapMat_at x1 k (by omega) L m)).trans ?_
    rfl

theorem wclR_at (x1 : Vec Ideal S1x27 .f32) (lw : Vec Ideal S512x512 .f32) (L : Fin 1836) (o : Fin 512) :
    wclR (F := Ideal) x1 (View.ld lw r0_10) (ix2 L o)
      = ∑ m : Fin 512, convR (F := Ideal) x1 27 (ix2 L m) * (lw : FVec Ideal S512x512 .f32) (ix2 o m) := by
  unfold wclR
  generalize convR (F := Ideal) x1 27 = C
  pointwise []
end Cert.KernelIdeal.Hand
-- ==== Proof.VMega.lean ====
module

public import proofs.«01_k».proof.Proof.VPrep
public import proofs.«01_k».proof.Proof.IRegion1

@[expose] public section

/-! What the second call's payloads hold at an entry: one group of 32 rows mixed by the neighbour matrix, its running sums over
    the rows of a block, and the normalised rows. -/

set_option maxRecDepth 16384

noncomputable section

namespace Cert.KernelIdeal.Hand

open Cert.KernelIdeal.Gen Cert.Hand
open Idealize.ShloMosaic Idealize.ShloMosaic.TcCoe

variable (x0 : Vec Ideal S256x1836 .bf16) (x1 : Vec Ideal S1836x512 .bf16) (x2 : Vec Ideal S32x32 .f32) (x3 : Vec Ideal S32x512 .f32)

/-- The row of the projected block that view `u` of group `g` occupies. -/
def gRow (g : Fin 8) (u : Fin 32) : Fin 256 := ⟨32 * g.val + u.val, by omega⟩

/-- The projected block at an entry. -/
theorem proj_at (r : Fin 256) (o : Fin 512) : k1_pay11 (F := Ideal) x0 x1 (ix2 r o)
    = ∑ L : Fin 1836, (x0 : FVec Ideal S256x1836 .bf16) (ix2 r L) * (x1 : FVec Ideal S1836x512 .bf16) (ix2 L o) := by
  pointwise [k1_pay11]

/-- One mixed entry, of any projected block. -/
def mixG (P : FVec Ideal S256x512 .f32) (A : FVec Ideal S32x32 .f32) (B : FVec Ideal S32x512 .f32) (g : Fin 8) (v : Fin 32) (o : Fin 512) : EReal :=
  max ((∑ u : Fin 32, A (ix2 v u) * P (ix2 (gRow g u) o)) + B (ix2 v o)) 0

theorem mixG_of (P : FVec Ideal S256x512 .f32) (A : FVec Ideal S32x32 .f32) (B : FVec Ideal S32x512 .f32) (g : Fin 8) (v : Fin 32) (o : Fin 512)
    (f : Fin 32 → Fin 256) (hf : ∀ u, (f u).val = 32 * g.val + u.val) :
    max ((∑ u : Fin 32, A (ix2 v u) * P (ix2 (f u) o)) + B (ix2 v o)) 0 = mixG P A B g v o := by
  unfold mixG
  rw [show f = gRow g from funext fun u => Fin.ext (hf u)]

theorem pay12_eq : k1_pay12 (F := Ideal) x2 = x2 := by
  funext j; idx_vars j; pointwise [k1_pay12]
theorem pay13_eq : k1_pay13 (F := Ideal) x3 = x3 := by
  funext j; idx_vars j; pointwise [k1_pay13]

section Groups
variable (P : FVec Ideal S256x512 .f32) (A : FVec Ideal S32x32 .f32) (B : FVec Ideal S32x512 .f32) (v : Fin 32) (o : Fin 512)

/-! The eight groups, under the names they have in the body. -/
theorem g0_at : k1_pay14 (F := Ideal) x0 x1 x2 x3 (ix2 v o) = mixG (k1_pay11 x0 x1) x2 x3 0 v o := by
  generalize hP : k1_pay11 (F := Ideal) x0 x1 = P
  pointwise [k1_pay14]
  rw [hP, pay12_eq, pay13_eq]
  exact mixG_of P x2 x3 0 v o _ fun u => (by simp)
theorem g1_at : k1_pay18 (F := Ideal) x0 x1 x2 x3 (ix2 v o) = mixG (k1_pay11 x0 x1) x2 x3 1 v o := by
  generalize hP : k1_pay11 (F := Ideal) x0 x1 = P
  pointwise [k1_pay18]
  rw [hP, pay12_eq, pay13_eq]
  exact mixG_of P x2 x3 1 v o _ fun u => rfl
theorem g2_at : k1_pay20 (F := Ideal) P A B (ix2 v o) = mixG P A B 2 v o := by
  pointwise [k1_pay20]
  exact mixG_of P A B 2 v o _ fun u => rfl
theorem g3_at : k1_pay22 (F := Ideal) P A B (ix2 v o) = mixG P A B 3 v o := by
  pointwise [k1_pay22]
  exact mixG_of P A B 3 v o _ fun u => rfl
theorem g4_at : k1_pay26 (F := Ideal) P A B (ix2 v o) = mixG P A B 4 v o := by
  pointwise [k1_pay26]
  exact mixG_of P A B 4 v o _ fun u => rfl
theorem g5_at : k1_pay28 (F := Ideal) P A B (ix2 v o) = mixG P A B 5 v o := by
  pointwise [k1_pay28]
  exact mixG_of P A B 5 v o _ fun u => rfl
theorem g7_at : k1_pay2 (F := Ideal) P A B (ix2 v o) = mixG P A B 7 v o := by
  pointwise [k1_pay2]
  exact mixG_of P A B 7 v o _ fun u => rfl
theorem g6_at' : k1_pay32 (F := Ideal) P A B (ix2 v o) = mixG P A B 6 v o := by
  pointwise [k1_pay32]
  exact mixG_of P A B 6 v o _ fun u => rfl
theorem g6_at : k1_pay1 (F := Ideal) (k1_pay32 P A B) (ix2 v o) = mixG P A B 6 v o := by
  pointwise [k1_pay1, k1_pay32]
  exact mixG_of P A B 6 v o _ fun u => rfl

end Groups

/-- What group `g` stores at an entry. -/
theorem payG_at (g : Fin 8) (v : Fin 32) (o : Fin 512) :
    payG (F := Ideal) x0 x1 x2 x3 g (ix2 v o) = mixG (k1_pay11 x0 x1) x2 x3 g v o := by
  fin_cases g
  · refine Eq.trans ?_ (g0_at x0 x1 x2 x3 v o)
    show k1_pay15 (F := Ideal) x0 x1 x2 x3 (ix2 v o) = _
    pointwise [k1_pay15]
  · refine Eq.trans ?_ (g1_at x0 x1 x2 x3 v o)
    show k1_pay19 (F := Ideal) (k1_pay18 x0 x1 x2 x3) (ix2 v o) = _
    pointwise [k1_pay19]
  · refine Eq.trans ?_ ((g2_at (k1_pay11 x0 x1) (k1_pay12 x2) (k1_pay13 x3) v o).trans (by rw [pay12_eq, pay13_eq]; rfl))
    show k1_pay21 (F := Ideal) (k1_pay11 x0 x1) (k1_pay12 x2) (k1_pay13 x3) (ix2 v o) = _
    pointwise [k1_pay21]
  · refine Eq.trans ?_ ((g3_at (k1_pay11 x0 x1) (k1_pay12 x2) (k1_pay13 x3) v o).trans (by rw [pay12_eq, pay13_eq]; rfl))
    show k1_pay23 (F := Ideal) (k1_pay11 x0 x1) (k1_pay12 x2) (k1_pay13 x3) (ix2 v o) = _
    pointwise [k1_pay23]
  · refine Eq.trans ?_ ((g4_at (k1_pay11 x0 x1) (k1_pay12 x2) (k1_pay13 x3) v o).trans (by rw [pay12_eq, pay13_eq]; rfl))
    show k1_pay27 (F := Ideal) (k1_pay11 x0 x1) (k1_pay12 x2) (k1_pay13 x3) (ix2 v o) = _
    pointwise [k1_pay27]
  · refine Eq.trans ?_ ((g5_at (k1_pay11 x0 x1) (k1_pay12 x2) (k1_pay13 x3) v o).trans (by rw [pay12_eq, pay13_eq]; rfl))
    show k1_pay29 (F := Ideal) (k1_pay11 x0 x1) (k1_pay12 x2) (k1_pay13 x3) (ix2 v o) = _
    pointwise [k1_pay29]
  · exact (g6_at (k1_pay11 x0 x1) (k1_pay12 x2) (k1_pay13 x3) v o).trans (by rw [pay12_eq, pay13_eq]; rfl)
  · refine Eq.trans ?_ ((g7_at (k1_pay11 x0 x1) (k1_pay12 x2) (k1_pay13 x3) v o).trans (by rw [pay12_eq, pay13_eq]; rfl))
    show k1_pay3 (F := Ideal) (k1_pay11 x0 x1) (k1_pay12 x2) (k1_pay13 x3) (ix2 v o) = _
    pointwise [k1_pay3]

/-- The sum over a block's rows, group by group. -/
def rowSum (P : FVec Ideal S256x512 .f32) (A : FVec Ideal S32x32 .f32) (B : FVec Ideal S32x512 .f32) (o : Fin 512) : EReal :=
  ∑ g : Fin 8, ∑ v : Fin 32, mixG P A B g v o
/-- The same of the squares. -/
def rowSq (P : FVec Ideal S256x512 .f32) (A : FVec Ideal S32x32 .f32) (B : FVec Ideal S32x512 .f32) (o : Fin 512) : EReal :=
  ∑ g : Fin 8, ∑ v : Fin 32, mixG P A B g v o * mixG P A B g v o

theorem init0_at (o : Fin 512) : init0 (F := Ideal) x0 x1 x2 x3 (ix2 0 o) = rowSum (k1_pay11 x0 x1) x2 x3 o := by
  unfold rowSum
  rw [Fin.sum_univ_eight]
  unfold init0 part0
  rw [pay12_eq, pay13_eq]
  pointwise [k1_pay6, k1_pay4, k1_pay30, k1_pay24, k1_pay16]
  simp only [g0_at, g1_at, g2_at, g3_at, g4_at, g5_at, g6_at', g7_at]

theorem acc0_at (a : Vec Ideal S1x512 .f32) (o : Fin 512) :
    acc0 (F := Ideal) x0 x1 x2 x3 a (ix2 0 o) = (a : FVec Ideal S1x512 .f32) (ix2 0 o) + rowSum (k1_pay11 x0 x1) x2 x3 o := by
  rw [← init0_at]
  unfold init0 acc0
  pointwise [k1_pay8, k1_pay6]

theorem init1_at (o : Fin 512) : init1 (F := Ideal) x0 x1 x2 x3 (ix2 0 o) = rowSq (k1_pay11 x0 x1) x2 x3 o := by
  unfold rowSq
  rw [Fin.sum_univ_eight]
  unfold init1 part1
  rw [pay12_eq, pay13_eq]
  pointwise [k1_pay7, k1_pay5, k1_pay31, k1_pay25, k1_pay17]
  simp only [g0_at, g1_at, g2_at, g3_at, g4_at, g5_at, g6_at', g7_at]

theorem acc1_at (a : Vec Ideal S1x512 .f32) (o : Fin 512) :
    acc1 (F := Ideal) x0 x1 x2 x3 a (ix2 0 o) = (a : FVec Ideal S1x512 .f32) (ix2 0 o) + rowSq (k1_pay11 x0 x1) x2 x3 o := by
  rw [← init1_at]
  unfold init1 acc1
  pointwise [k1_pay9, k1_pay7]

/-- One entry normalised, from the column's sum, its sum of squares, and the column's scale and shift. -/
def normE (s q ga be f : EReal) : EReal :=
  f * (ga * Ideal.rsqrt (q * Ideal.ofBits FTy.f32 947912704#32 - s * Ideal.ofBits FTy.f32 947912704#32 * (s * Ideal.ofBits FTy.f32 947912704#32)
        + Ideal.ofBits FTy.f32 925353388#32))
    + (be - s * Ideal.ofBits FTy.f32 947912704#32
        * (ga * Ideal.rsqrt (q * Ideal.ofBits FTy.f32 947912704#32 - s * Ideal.ofBits FTy.f32 947912704#32 * (s * Ideal.ofBits FTy.f32 947912704#32)
        + Ideal.ofBits FTy.f32 925353388#32)))

theorem norm_at (s q : Vec Ideal S1x512 .f32) (ga be : Vec Ideal S1x512 .f32) (f : Vec Ideal S2048x512 .f32) (r : Fin 2048) (o : Fin 512) :
    k1_pay10 (F := Ideal) s q ga be f (ix2 r o)
      = normE ((s : FVec Ideal S1x512 .f32) (ix2 0 o)) ((q : FVec Ideal S1x512 .f32) (ix2 0 o)) ((ga : FVec Ideal S1x512 .f32) (ix2 0 o))
          ((be : FVec Ideal S1x512 .f32) (ix2 0 o)) ((f : FVec Ideal S2048x512 .f32) (ix2 r o)) := by
  pointwise [k1_pay10]
  rfl

end Cert.KernelIdeal.Hand
-- ==== Proof.VRegion.lean ====
module

public import proofs.«01_k».proof.Proof.VMega
public import proofs.«01_k».proof.Proof.IRun
public import Idealize.ShloMosaic.Lib.Pipeline.ValueKit

@[expose] public section

/-! What the two calls leave in their output arrays, at an entry: the prep call's three results as functions of the arrays it
    finds, and the second call's normalised rows as a function of its six. -/

set_option maxRecDepth 16384

noncomputable section

namespace Cert.KernelIdeal.Hand

open Cert.KernelIdeal Cert.KernelIdeal.Gen Cert.Hand
open Idealize.ShloMosaic Idealize.ShloMosaic.TcCoe Idealize.SL.Sem
open Idealize.ShloMosaic.Pipeline (Dat)

section Blocks
variable {F : FTy → Type} [FloatOps F] [Named F]
variable (V : ∀ (c : Dev nD) (b : Ref sig .tc), Buf (Elt F) ((c : Thread nD τ).loc b))
variable (c : Dev nD)

/-! ## The prep call: its only point sees whole arrays -/

theorem idx0 : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] :=
  (by decide +kernel : ∀ t : Fin grid0.N, _)

theorem iblk0_0 : iblk0 V c 0 t0_0 = V c main_arg1 := by
  blk_ext! [iblk0, idx0 t0_0]
theorem iblk0_1 : iblk0 V c 1 t0_0 = V c main_v2 := by
  blk_ext! [iblk0, idx0 t0_0]
theorem iblk0_2 : iblk0 V c 2 t0_0 = V c main_v3 := by
  blk_ext! [iblk0, idx0 t0_0]
theorem iblk0_3 : iblk0 V c 3 t0_0 = V c main_v4 := by
  blk_ext! [iblk0, idx0 t0_0]
theorem iblk0_4 : iblk0 V c 4 t0_0 = V c main_v5 := by
  blk_ext! [iblk0, idx0 t0_0]
theorem iblk0_5 : iblk0 V c 5 t0_0 = V c main_v6 := by
  blk_ext! [iblk0, idx0 t0_0]
theorem iblk0_6 : iblk0 V c 6 t0_0 = V c main_v7 := by
  blk_ext! [iblk0, idx0 t0_0]
theorem iblk0_7 : iblk0 V c 7 t0_0 = V c main_v8 := by
  blk_ext! [iblk0, idx0 t0_0]
theorem iblk0_8 : iblk0 V c 8 t0_0 = V c main_v9 := by
  blk_ext! [iblk0, idx0 t0_0]
theorem iblk0_9 : iblk0 V c 9 t0_0 = V c main_arg10 := by
  blk_ext! [iblk0, idx0 t0_0]
theorem iblk0_10 : iblk0 V c 10 t0_0 = V c main_v10 := by
  blk_ext! [iblk0, idx0 t0_0]

theorem arr0_11 : (dat0 V c).arrAt 11 cfg0.N
    = out0_11 (V c main_arg1) (V c main_v2) (V c main_v3) (V c main_v4) (V c main_v5) (V c main_v6) (V c main_v7) (V c main_v8) (V c main_v9) (V c main_arg10) (V c main_v10) := by
  refine (dat0 V c).arrAt_eq_of_after_last 11 t0_0 (by decide +kernel) _ fun j => ?_
  blk_simp
  rw [after0_11, iblk0_0, iblk0_1, iblk0_2, iblk0_3, iblk0_4, iblk0_5, iblk0_6, iblk0_7, iblk0_8, iblk0_9, iblk0_10]
theorem arr0_12 : (dat0 V c).arrAt 12 cfg0.N
    = out0_12 (V c main_arg1) (V c main_v2) (V c main_v3) (V c main_v4) (V c main_v5) (V c main_v6) (V c main_v7) (V c main_v8) (V c main_v9) (V c main_arg10) (V c main_v10) := by
  refine (dat0 V c).arrAt_eq_of_after_last 12 t0_0 (by decide +kernel) _ fun j => ?_
  blk_simp
  rw [after0_12, iblk0_0, iblk0_1, iblk0_2, iblk0_3, iblk0_4, iblk0_5, iblk0_6, iblk0_7, iblk0_8, iblk0_9, iblk0_10]
theorem arr0_13 : (dat0 V c).arrAt 13 cfg0.N
    = out0_13 (V c main_arg1) (V c main_v2) (V c main_v3) (V c main_v4) (V c main_v5) (V c main_v6) (V c main_v7) (V c main_v8) (V c main_v9) (V c main_arg10) (V c main_v10) := by
  refine (dat0 V c).arrAt_eq_of_after_last 13 t0_0 (by decide +kernel) _ fun j => ?_
  blk_simp
  rw [after0_13, iblk0_0, iblk0_1, iblk0_2, iblk0_3, iblk0_4, iblk0_5, iblk0_6, iblk0_7, iblk0_8, iblk0_9, iblk0_10]

/-! ## The second call's blocks -/

theorem idx1 : ∀ t : Fin cfg1.N, win1_0.index t = ![min t.val 63, 0] ∧ win1_1.index t = ![0, 0] ∧ win1_2.index t = ![0, 0] ∧ win1_3.index t = ![0, 0]
    ∧ win1_4.index t = ![0, 0] ∧ win1_5.index t = ![0, 0] ∧ win1_6.index t = ![t.val - 64, 0] :=
  (by decide +kernel : ∀ t : Fin grid1.N, _)

theorem iblk1_0 (t : Fin cfg1.N) (r : Fin 256) (L : Fin 1836) : iblk1 V c 0 t (ix2 r L) = V c main_v1 (ix2 ⟨256 * min t.val 63 + r.val, by omega⟩ L) := by
  blk_ext [iblk1, idx1 t]

theorem iblk1_1 (t : Fin cfg1.N) : iblk1 V c 1 t = V c main_v12 := by
  blk_ext! [iblk1, idx1 t]
theorem iblk1_2 (t : Fin cfg1.N) : iblk1 V c 2 t = V c main_v11_0 := by
  blk_ext! [iblk1, idx1 t]
theorem iblk1_3 (t : Fin cfg1.N) : iblk1 V c 3 t = V c main_v11_1 := by
  blk_ext! [iblk1, idx1 t]
theorem iblk1_4 (t : Fin cfg1.N) : iblk1 V c 4 t = V c main_v13 := by
  blk_ext! [iblk1, idx1 t]
theorem iblk1_5 (t : Fin cfg1.N) : iblk1 V c 5 t = V c main_v14 := by
  blk_ext! [iblk1, idx1 t]

/-- The normalised rows as one array. -/
def NOut (V : ∀ (c : Dev nD) (b : Ref sig .tc), Buf (Elt F) ((c : Thread nD τ).loc b)) (c : Dev nD) : Vec F S16384x512 .f32 := fun y =>
  outA V c (pt (64 + (y 0).val / 2048)) (ix2 ⟨(y 0).val % 2048, Nat.mod_lt _ (by decide)⟩ (y 1))

theorem arr1_6 : (dat1 V c).arrAt 6 cfg1.N = NOut V c := by
  refine (dat1 V c).arrAt_eq_of_covers 6 _ (by decide +kernel) fun t hf y => ?_
  blk_simp
  rw [after1_6]
  have h64 : 64 ≤ t.val := by
    by_contra hlt
    exact Bool.false_ne_true ((noflush_6 t (by omega)).symm.trans hf)
  have hN : t.val < 72 := lt_of_lt_of_eq t.isLt N_1
  have hy0 : (y 0 : ℕ) < 2048 := (y 0).isLt
  generalize hi : (win1_6.blk t).view.emb y = i
  have hi0 : (i 0 : ℕ) = 2048 * (t.val - 64) + (y 0 : ℕ) := by rw [← hi]; blk_simp [idx1 t]; omega
  have hi1 : (i 1 : ℕ) = (y 1 : ℕ) := by rw [← hi]; blk_simp [idx1 t]
  unfold NOut
  have ht : pt (64 + (i 0 : ℕ) / 2048) = t := by
    rw [show 64 + (i 0 : ℕ) / 2048 = t.val by omega, pt_val]
  rw [ht]
  refine congrArg (outA V c t) ?_
  refine (eq_ix2 (n0 := 2048) (n1 := 512) y).trans ?_
  refine congr (congrArg (ix2 (n0 := 2048) (n1 := 512)) (Fin.ext ?_)) (Fin.ext hi1.symm)
  show (y 0 : ℕ) = (i 0 : ℕ) % 2048
  omega

end Blocks

/-! ## The same over the extended reals -/

/-- Row `y` after the projection, the mixing over its batch of 32 rows, the bias and the cut at zero. -/
def rowE (X : Fin 16384 → Fin 1836 → EReal) (W : Fin 1836 → Fin 512 → EReal) (A : Fin 32 → Fin 32 → EReal) (B : Fin 32 → Fin 512 → EReal)
    (y : Fin 16384) (o : Fin 512) : EReal :=
  max ((∑ u : Fin 32, A ⟨y.val % 32, Nat.mod_lt _ (by decide)⟩ u * ∑ L : Fin 1836, X ⟨32 * (y.val / 32) + u.val, by omega⟩ L * W L o)
    + B ⟨y.val % 32, Nat.mod_lt _ (by decide)⟩ o) 0

section Ideal
variable (V : ∀ (c : Dev nD) (b : Ref sig .tc), Buf (Elt Ideal) ((c : Thread nD τ).loc b)) (c : Dev nD)

/-- The rows before normalising, from the arrays the second call finds. -/
def RowV (y : Fin 16384) (o : Fin 512) : EReal :=
  rowE (fun y L => (V c main_v1 : FVec Ideal S16384x1836 .bf16) (ix2 y L)) (fun L o => (V c main_v12 : FVec Ideal S1836x512 .bf16) (ix2 L o))
    (fun v u => (V c main_v11_0 : FVec Ideal S32x32 .f32) (ix2 v u)) (fun v o => (V c main_v11_1 : FVec Ideal S32x512 .f32) (ix2 v o)) y o

theorem mix_at (t : Fin cfg1.N) (ht : t.val < 64) (g : Fin 8) (v : Fin 32) (o : Fin 512) :
    mixG (k1_pay11 (F := Ideal) (iblk1 V c 0 t) (iblk1 V c 1 t)) (iblk1 V c 2 t : Vec Ideal S32x32 .f32) (iblk1 V c 3 t : Vec Ideal S32x512 .f32) g v o
      = RowV V c ⟨256 * t.val + (32 * g.val + v.val), by omega⟩ o := by
  have e1 : (256 * t.val + (32 * g.val + v.val)) % 32 = v.val := by omega
  have e2 : 32 * ((256 * t.val + (32 * g.val + v.val)) / 32) = 256 * t.val + 32 * g.val := by omega
  unfold RowV rowE mixG
  rw [iblk1_2, iblk1_3]
  simp only [e1, e2]
  refine congrArg (fun z : EReal => max (z + _) 0) (Finset.sum_congr rfl fun u _ => ?_)
  rw [proj_at, iblk1_1]
  refine congrArg _ (Finset.sum_congr rfl fun L _ => congrArg (· * _) ?_)
  refine (iblk1_0 V c t _ L).trans ?_
  refine congrArg (V c main_v1) (congrArg (fun z => ix2 (n0 := 16384) (n1 := 1836) z L) (Fin.ext ?_))
  show 256 * min t.val 63 + (32 * g.val + u.val) = 256 * t.val + 32 * g.val + u.val
  rw [Nat.min_eq_left (by omega)]
  omega

theorem FF_at (y : Fin 16384) (o : Fin 512) : FF (F := Ideal) V c (ix2 y o) = RowV V c y o := by
  have hp : (pt (y.val / 256)).val = y.val / 256 := Nat.mod_eq_of_lt (by omega)
  show FB (F := Ideal) V c (pt (y.val / 256)) ⟨y.val / 32 % 8, _⟩ (ix2 ⟨y.val % 32, _⟩ o) = _
  unfold FB
  rw [payG_at, mix_at V c _ (by omega)]
  refine congrArg (fun z => RowV V c z o) (Fin.ext ?_)
  show 256 * (pt (y.val / 256)).val + (32 * (y.val / 32 % 8) + y.val % 32) = y.val
  omega

/-- The rows of one point, group by group. -/
theorem rowSum_at (f : EReal → EReal) (t : Fin cfg1.N) (ht : t.val < 64) (o : Fin 512) :
    (∑ g : Fin 8, ∑ v : Fin 32, f (mixG (k1_pay11 (F := Ideal) (iblk1 V c 0 t) (iblk1 V c 1 t)) (iblk1 V c 2 t : Vec Ideal S32x32 .f32) (iblk1 V c 3 t : Vec Ideal S32x512 .f32) g v o))
      = ∑ r : Fin 256, f (RowV V c ⟨256 * t.val + r.val, by omega⟩ o) := by
  rw [Fin.sum_univ_tiles 8 32 rfl]
  refine Finset.sum_congr rfl fun g _ => Finset.sum_congr rfl fun v _ => congrArg f ?_
  rw [mix_at V c t ht]
  refine congrArg (fun z => RowV V c z o) (Fin.ext ?_)
  show _ = 256 * t.val + (g.val * 32 + v.val)
  show 256 * t.val + (32 * g.val + v.val) = _
  omega

theorem SA_at (n : ℕ) (hn : n < 64) (o : Fin 512) :
    SA (F := Ideal) V c n (ix2 0 o) = ∑ t : Fin (n + 1), ∑ r : Fin 256, RowV V c ⟨256 * t.val + r.val, by omega⟩ o := by
  induction n with
  | zero =>
    rw [Fin.sum_univ_one]
    exact (init0_at _ _ _ _ o).trans (rowSum_at V c id (pt 0) (by decide) o)
  | succ n ih =>
    have hp : (pt (n + 1)).val = n + 1 := Nat.mod_eq_of_lt (by omega)
    rw [Fin.sum_univ_castSucc]
    refine (acc0_at _ _ _ _ (SA V c n) o).trans (congrArg₂ (· + ·) (ih (by omega)) ?_)
    refine (rowSum_at V c id (pt (n + 1)) (by omega) o).trans (Finset.sum_congr rfl fun r _ => ?_)
    refine congrArg (fun z => RowV V c z o) (Fin.ext ?_)
    show 256 * (pt (n + 1)).val + r.val = 256 * (n + 1) + r.val
    rw [hp]

theorem SB_at (n : ℕ) (hn : n < 64) (o : Fin 512) :
    SB (F := Ideal) V c n (ix2 0 o) = ∑ t : Fin (n + 1), ∑ r : Fin 256, RowV V c ⟨256 * t.val + r.val, by omega⟩ o * RowV V c ⟨256 * t.val + r.val, by omega⟩ o := by
  induction n with
  | zero =>
    rw [Fin.sum_univ_one]
    exact (init1_at _ _ _ _ o).trans (rowSum_at V c (fun z => z * z) (pt 0) (by decide) o)
  | succ n ih =>
    have hp : (pt (n + 1)).val = n + 1 := Nat.mod_eq_of_lt (by omega)
    rw [Fin.sum_univ_castSucc]
    refine (acc1_at _ _ _ _ (SB V c n) o).trans (congrArg₂ (· + ·) (ih (by omega)) ?_)
    refine (rowSum_at V c (fun z => z * z) (pt (n + 1)) (by omega) o).trans (Finset.sum_congr rfl fun r _ => ?_)
    refine congrArg (fun z => RowV V c z o * RowV V c z o) (Fin.ext ?_)
    show 256 * (pt (n + 1)).val + r.val = 256 * (n + 1) + r.val
    rw [hp]

theorem sum_rows (f : Fin 16384 → EReal) : (∑ t : Fin (63 + 1), ∑ r : Fin 256, f ⟨256 * t.val + r.val, by omega⟩) = ∑ y, f y := by
  rw [Fin.sum_univ_tiles 64 256 rfl f]
  refine Finset.sum_congr rfl fun t _ => Finset.sum_congr rfl fun r _ => congrArg f (Fin.ext ?_)
  show 256 * t.val + r.val = t.val * 256 + r.val
  omega

/-- The second call's result at an entry. -/
theorem NOut_at (y : Fin 16384) (o : Fin 512) :
    NOut (F := Ideal) V c (ix2 y o) = normE (∑ y, RowV V c y o) (∑ y, RowV V c y o * RowV V c y o)
      ((V c main_v13 : FVec Ideal S1x512 .f32) (ix2 0 o)) ((V c main_v14 : FVec Ideal S1x512 .f32) (ix2 0 o)) (RowV V c y o) := by
  have hp : (pt (64 + y.val / 2048)).val = 64 + y.val / 2048 := Nat.mod_eq_of_lt (by omega)
  show outA (F := Ideal) V c (pt (64 + y.val / 2048)) (ix2 ⟨y.val % 2048, _⟩ o) = _
  unfold outA
  rw [norm_at, SA_at V c 63 (by decide), SB_at V c 63 (by decide), sum_rows (fun y => RowV V c y o), sum_rows (fun y => RowV V c y o * RowV V c y o), iblk1_4, iblk1_5]
  refine congrArg (normE _ _ _ _) ?_
  unfold FR
  refine (FF_at V c _ o).trans (congrArg (fun z => RowV V c z o) (Fin.ext ?_))
  show (2048 * ((pt (64 + y.val / 2048)).val - 64) + y.val % 2048) % 16384 = y.val
  omega

end Ideal

end Cert.KernelIdeal.Hand
-- ==== Proof.VMath.lean ====
module

public import proofs.«01_k».proof.Proof.VRef
public import proofs.«01_k».proof.Proof.VRegion

@[expose] public section

/-! The two identities over the reals: a convolution followed by a projection is one matrix product, and the one-pass
normalisation (sum and sum of squares) is the two-pass one. -/

set_option maxRecDepth 16384

noncomputable section

namespace Cert.Hand

open Idealize.ShloMosaic Idealize.ShloMosaic.TcCoe Idealize.SL.Sem
open Cert.KernelIdeal.Hand (tapAt tapAt_lt normE)
open Cert.ReferenceIdeal.Hand (normF)

/-! ## Taps -/

/-- A sum over the twenty-seven taps is one over channel, row and column. -/
theorem sum_taps {M : Type} [AddCommMonoid M] (f : Fin 3 → Fin 3 → Fin 3 → M) :
    ∑ j : Fin 27, f ⟨j.val / 9, by omega⟩ ⟨j.val / 3 % 3, by omega⟩ ⟨j.val % 3, by omega⟩ = ∑ a, ∑ b, ∑ c, f a b c := by
  simp only [Fin.sum_univ_succ, Fin.sum_univ_zero]
  simp [add_assoc]

/-- The flattened position of a tap, split into its three coordinates. -/
theorem tap_split (a : Fin 3 → Fin 34 → Fin 18 → ℝ) (j : Fin 27) (m : Fin 512) :
    a ⟨tapAt j.val m / 612, by have := tapAt_lt j.val j.isLt m; omega⟩ ⟨tapAt j.val m / 18 % 34, by omega⟩ ⟨tapAt j.val m % 18, by omega⟩
      = a ⟨j.val / 9, by omega⟩ ⟨j.val / 3 % 3 + m.val / 16, by omega⟩ ⟨j.val % 3 + m.val % 16, by omega⟩ := by
  have h1 : tapAt j.val m / 612 = j.val / 9 := by unfold tapAt; omega
  have h2 : tapAt j.val m / 18 % 34 = j.val / 3 % 3 + m.val / 16 := by unfold tapAt; omega
  have h3 : tapAt j.val m % 18 = j.val % 3 + m.val % 16 := by unfold tapAt; omega
  congr 1 <;> first | exact Fin.ext h3 | (congr 1 <;> first | exact Fin.ext h2 | (congr 1; exact Fin.ext h1))

/-- The convolution at one position is the image row against the column of taps. -/
theorem conv_real (a : Fin 3 → Fin 34 → Fin 18 → ℝ) (cw : Fin 3 → Fin 3 → Fin 3 → ℝ) (m : Fin 512) :
    (∑ L : Fin 1836, a ⟨L.val / 612, by omega⟩ ⟨L.val / 18 % 34, by omega⟩ ⟨L.val % 18, by omega⟩ *
        ∑ j : Fin 27, if L.val = tapAt j.val m then cw ⟨j.val / 9, by omega⟩ ⟨j.val / 3 % 3, by omega⟩ ⟨j.val % 3, by omega⟩ else 0)
      = ∑ ci : Fin 3, ∑ dr : Fin 3, ∑ dc : Fin 3, a ci ⟨dr.val + m.val / 16, by omega⟩ ⟨dc.val + m.val % 16, by omega⟩ * cw ci dr dc := by
  rw [← sum_taps fun ci dr dc => a ci ⟨dr.val + m.val / 16, by omega⟩ ⟨dc.val + m.val % 16, by omega⟩ * cw ci dr dc]
  simp only [Finset.mul_sum]
  rw [Finset.sum_comm]
  refine Finset.sum_congr rfl fun j _ => ?_
  rw [Finset.sum_eq_single (⟨tapAt j.val m, tapAt_lt j.val j.isLt m⟩ : Fin 1836)]
  · rw [if_pos rfl, tap_split a j m]
  · intro L _ hL
    rw [if_neg fun h => hL (Fin.ext h), mul_zero]
  · intro h; exact absurd (Finset.mem_univ _) h

/-- The kernel's row over the reals is the reference's. -/
theorem row_real (X : Fin 32 → Fin 1836 → ℝ) (C : Fin 1836 → Fin 512 → ℝ) (lw : Fin 512 → ℝ) (lb cb : ℝ) (w : ℕ → ℝ) (n : ℕ → Fin 32) :
    (∑ u, (∑ j ∈ Finset.range 5, w j * if u = n j then 1 else 0) * ∑ L, X u L * ∑ m, C L m * lw m)
        + (cb * (∑ u, ∑ j ∈ Finset.range 5, w j * if u = n j then 1 else 0) * (∑ m, lw m) + lb)
      = (∑ m, (∑ k : Fin 5, w k.val * ((∑ L, X (n k.val) L * C L m) + cb)) * lw m) + lb := by
  have pick (f : Fin 32 → ℝ) : (∑ u, (∑ j ∈ Finset.range 5, w j * if u = n j then 1 else 0) * f u) = ∑ k : Fin 5, w k.val * f (n k.val) := by
    simp only [Finset.sum_mul]
    rw [Finset.sum_comm, Finset.sum_range]
    refine Finset.sum_congr rfl fun k _ => ?_
    simp [mul_assoc]
  have one : (∑ u, ∑ j ∈ Finset.range 5, w j * if u = n j then 1 else 0) = ∑ k : Fin 5, w k.val := by
    simpa using pick fun _ => 1
  have proj (x : Fin 1836 → ℝ) : (∑ L, x L * ∑ m, C L m * lw m) = ∑ m, (∑ L, x L * C L m) * lw m := by
    simp only [Finset.mul_sum, Finset.sum_mul]
    rw [Finset.sum_comm]
    exact Finset.sum_congr rfl fun m _ => Finset.sum_congr rfl fun L _ => (mul_assoc _ _ _).symm
  rw [pick fun u => ∑ L, X u L * ∑ m, C L m * lw m, one, ← add_assoc]
  congr 1
  simp only [proj, mul_add, Finset.sum_add_distrib, add_mul]
  congr 1
  · simp only [Finset.mul_sum, Finset.sum_mul]
    rw [Finset.sum_comm]
    refine Finset.sum_congr rfl fun m _ => Finset.sum_congr rfl fun k _ => Finset.sum_congr rfl fun L _ => ?_
    ring
  · rw [← Finset.sum_mul, Finset.mul_sum, mul_comm cb]

/-- The kernel's row is the reference's, for real arguments. -/
theorem row_eq (a : Fin 32 → Fin 3 → Fin 34 → Fin 18 → EReal) (cw : Fin 3 → Fin 3 → Fin 3 → EReal) (lw : Fin 512 → EReal) (lb cb : EReal)
    (w : ℕ → EReal) (n : ℕ → Fin 32) (ha : ∀ u x y z, IsR (a u x y z)) (hcw : ∀ x y z, IsR (cw x y z)) (hlw : ∀ m, IsR (lw m)) (hlb : IsR lb)
    (hcb : IsR cb) (hw : ∀ k, IsR (w k)) :
    (∑ u, (∑ j ∈ Finset.range 5, w j * if u = n j then (1 : EReal) else 0) *
          ∑ L : Fin 1836, a u ⟨L.val / 612, by omega⟩ ⟨L.val / 18 % 34, by omega⟩ ⟨L.val % 18, by omega⟩ *
            ∑ m, (∑ j : Fin 27, if L.val = tapAt j.val m then cw ⟨j.val / 9, by omega⟩ ⟨j.val / 3 % 3, by omega⟩ ⟨j.val % 3, by omega⟩ else 0) * lw m)
        + (cb * (∑ u, ∑ j ∈ Finset.range 5, w j * if u = n j then (1 : EReal) else 0) * (∑ m, lw m) + lb)
      = (∑ m, (∑ k : Fin 5, w k.val * ((∑ ci : Fin 3, ∑ dr : Fin 3, ∑ dc : Fin 3,
            a (n k.val) ci ⟨dr.val + m.val / 16, by omega⟩ ⟨dc.val + m.val % 16, by omega⟩ * cw ci dr dc) + cb)) * lw m) + lb := by
  choose a' ha using ha
  choose cw' hcw using hcw
  choose lw' hlw using hlw
  choose w' hw using hw
  obtain ⟨lb, rfl⟩ := hlb
  obtain ⟨cb, rfl⟩ := hcb
  have i1 (p : Prop) [Decidable p] : (if p then (1 : EReal) else 0) = ((if p then (1 : ℝ) else 0 : ℝ) : EReal) := by split <;> simp
  have i2 (p : Prop) [Decidable p] (x : ℝ) : (if p then (x : EReal) else 0) = ((if p then x else 0 : ℝ) : EReal) := by split <;> simp
  simp only [ha, hcw, hlw, hw, i1, i2, ← EReal.coe_mul, ← coe_sum, ← EReal.coe_add]
  congr 1
  have h := row_real (fun u L => a' u ⟨L.val / 612, by omega⟩ ⟨L.val / 18 % 34, by omega⟩ ⟨L.val % 18, by omega⟩)
    (fun L m => ∑ j : Fin 27, if L.val = tapAt j.val m then cw' ⟨j.val / 9, by omega⟩ ⟨j.val / 3 % 3, by omega⟩ ⟨j.val % 3, by omega⟩ else 0)
    lw' lb cb w' n
  simp only [conv_real] at h
  exact h

/-! ## Normalising -/

theorem ofBits_rows : Ideal.ofBits .f32 1182793728#32 = ((16384 : ℝ) : EReal) := by
  simp [Ideal.ofBits, Ideal.ieee, -EReal.coe_mul]; norm_num

theorem ofBits_inv_rows : Ideal.ofBits .f32 947912704#32 = ((1 / 16384 : ℝ) : EReal) := by
  simp [Ideal.ofBits, Ideal.ieee, -EReal.coe_mul]; norm_num

theorem ofBits_eps : ∃ e : ℝ, 0 < e ∧ Ideal.ofBits .f32 925353388#32 = (e : EReal) := by
  refine ⟨10995116 * 2⁻¹ ^ 40, by positivity, ?_⟩
  simp [Ideal.ofBits, Ideal.ieee, -EReal.coe_mul]

/-- Mean of squares less square of mean is the mean squared deviation. -/
theorem var_real (f : Fin 16384 → ℝ) :
    (∑ x, f x * f x) * (1 / 16384) - (∑ x, f x) * (1 / 16384) * ((∑ x, f x) * (1 / 16384))
      = (∑ x, (f x - (∑ x, f x) * (1 / 16384)) * (f x - (∑ x, f x) * (1 / 16384))) * (1 / 16384) := by
  have h (c : ℝ) : ∑ x, (f x - c) * (f x - c) = (∑ x, f x * f x) - 2 * c * (∑ x, f x) + 16384 * (c * c) := by
    have e (x) : (f x - c) * (f x - c) = f x * f x - 2 * c * f x + c * c := by ring
    simp only [e, Finset.sum_add_distrib, Finset.sum_sub_distrib, ← Finset.mul_sum, Finset.sum_const, Finset.card_univ, Fintype.card_fin,
      nsmul_eq_mul]
    ring
  rw [h]
  ring

/-- One pass and two passes normalise alike. -/
theorem norm_eq (f : Fin 16384 → EReal) (ga be : EReal) (y : Fin 16384) (hf : ∀ x, IsR (f x)) (hga : IsR ga) :
    normE (∑ x, f x) (∑ x, f x * f x) ga be (f y) = normF f ga be y := by
  choose g hg using hf
  obtain ⟨ga, rfl⟩ := hga
  obtain ⟨e, he, hE⟩ := ofBits_eps
  have hn : (16384 : ℝ) ≠ 0 := by norm_num
  have h0 : FloatOps.sitofp (F := Ideal) FTy.f32 (0#32) = ((0 : ℝ) : EReal) := by
    show (((0#32 : BitVec 32).toInt : ℝ) : EReal) = _
    simp
  have hpos : (0 : EReal) < ((16384 : ℝ) : EReal) := by exact_mod_cast (by norm_num : (0 : ℝ) < 16384)
  simp only [normE, normF, hE, ofBits_rows, ofBits_inv_rows, h0, hg, ← EReal.coe_sub, sub_zero, if_pos hpos, Ideal.div_coe hn, ← EReal.coe_mul, ← coe_sum,
    ← EReal.coe_add]
  rw [var_real]
  have hv : 0 < (∑ x, (g x - (∑ x, g x) * (1 / 16384)) * (g x - (∑ x, g x) * (1 / 16384))) * (1 / 16384) + e := by
    have : 0 ≤ ∑ x, (g x - (∑ x, g x) * (1 / 16384)) * (g x - (∑ x, g x) * (1 / 16384)) := Finset.sum_nonneg fun x _ => mul_self_nonneg _
    exact add_pos_of_nonneg_of_pos (mul_nonneg this (by norm_num)) he
  rw [ideal_rsqrt_coe hv, ideal_sqrt_coe hv.le]
  generalize (∑ x, (g x - (∑ x, g x) * (1 / 16384)) * (g x - (∑ x, g x) * (1 / 16384))) * (1 / 16384) + e = v at hv ⊢
  have hs : Real.sqrt v ≠ 0 := (Real.sqrt_pos.mpr hv).ne'
  rw [Ideal.div_coe hs]
  simp only [← EReal.coe_mul]
  rw [sub_eq_add_neg, add_comm be, ← add_assoc, ← EReal.coe_neg, ← EReal.coe_add]
  congr 2
  field_simp
  ring

end Cert.Hand
-- ==== Proof.VOut.lean ====
module

public import proofs.«01_k».proof.Proof.VMath

@[expose] public section

/-! The reference's result at an entry, over the argument arrays. -/

set_option maxRecDepth 16384

noncomputable section

namespace Cert.ReferenceIdeal.Hand

open Cert.ReferenceIdeal Cert.ReferenceIdeal.Gen Cert.ReferenceIdeal.Read Cert.Hand
open Idealize.ShloMosaic Idealize.ShloMosaic.TcCoe Idealize.SL.Sem

/-- The weight of neighbour `k` of view `v`, from the argument arrays. -/
def wt (a4 : FVec Ideal S10x10 .f32) (a5 : FVec Ideal S10 .f32) (a6 : FVec Ideal S10x10 .f32) (a7 : FVec Ideal S10 .f32) (a8 : FVec Ideal S1x10 .f32) (a9 : FVec Ideal S1 .f32) (Vr : Fin 32 → Fin 3 → ℝ) (v : Fin 32) (k : ℕ) : EReal :=
  mlp (fun o i => a4 (ix2 o i)) (fun o => a5 (ix1 o)) (fun o i => a6 (ix2 o i)) (fun o => a7 (ix1 o)) (fun o => a8 (ix2 0 o)) (a9 (ix1 0))
    (fun x => (Vr (nbr Vr v 0) x : EReal)) (fun x => (Vr (nbr Vr v k) x : EReal))

/-- The row before normalising: the weighted features of the neighbours in the row's batch, projected and clipped. -/
def rowF (a0 : FVec Ideal S16384x3x34x18 .f32) (a2 : FVec Ideal S1x3x3x3 .f32) (a3 : FVec Ideal S1 .f32) (a4 : FVec Ideal S10x10 .f32) (a5 : FVec Ideal S10 .f32) (a6 : FVec Ideal S10x10 .f32) (a7 : FVec Ideal S10 .f32) (a8 : FVec Ideal S1x10 .f32) (a9 : FVec Ideal S1 .f32) (a10 : FVec Ideal S512x512 .f32) (a11 : FVec Ideal S512 .f32)
    (Vr : Fin 32 → Fin 3 → ℝ) (y : Fin 16384) (o : Fin 512) : EReal :=
  max ((∑ f : Fin 512, (∑ k : Fin 5, wt a4 a5 a6 a7 a8 a9 Vr ⟨y.val % 32, by omega⟩ k.val * ((∑ ci : Fin 3, ∑ dr : Fin 3, ∑ dc : Fin 3,
      a0 (ix4 ⟨y.val / 32 * 32 + (nbr Vr ⟨y.val % 32, by omega⟩ k.val).val, by omega⟩ ci ⟨dr.val + f.val / 16, by omega⟩ ⟨dc.val + f.val % 16, by omega⟩)
        * a2 (ix4 0 ci dr dc)) + a3 (ix1 0))) * a10 (ix2 o f)) + a11 (ix1 o)) 0

section
variable (a0 : FVec Ideal S16384x3x34x18 .f32) (a1 : FVec Ideal S32x3 .f32) (a2 : FVec Ideal S1x3x3x3 .f32) (a3 : FVec Ideal S1 .f32) (a4 : FVec Ideal S10x10 .f32) (a5 : FVec Ideal S10 .f32) (a6 : FVec Ideal S10x10 .f32) (a7 : FVec Ideal S10 .f32) (a8 : FVec Ideal S1x10 .f32) (a9 : FVec Ideal S1 .f32) (a10 : FVec Ideal S512x512 .f32) (a11 : FVec Ideal S512 .f32) (a12 : FVec Ideal S512 .f32) (a13 : FVec Ideal S512 .f32)
variable (Vr : Fin 32 → Fin 3 → ℝ) (hV : ∀ v x, a1 (ix2 v x) = ((Vr v x : ℝ) : EReal))
include hV

theorem ref_row (y : Fin 16384) (o : Fin 512) :
    val_main_v260 (F := Ideal) a0 a1 a2 a3 a4 a5 a6 a7 a8 a9 a10 a11 (ix2 y o) = rowF a0 a2 a3 a4 a5 a6 a7 a8 a9 a10 a11 Vr y o := by
  rw [row_at]
  simp only [w_at a1 a4 a5 a6 a7 a8 a9 Vr hV, feat_near a1 Vr hV, feat_at]
  rfl

/-- The reference's result. -/
theorem ref_out (y : Fin 16384) (o : Fin 512) :
    val_main_v280 (F := Ideal) a0 a1 a2 a3 a4 a5 a6 a7 a8 a9 a10 a11 a12 a13 (ix3 y 0 o)
      = normF (fun y => rowF a0 a2 a3 a4 a5 a6 a7 a8 a9 a10 a11 Vr y o) (a12 (ix1 o)) (a13 (ix1 o)) y := by
  rw [out_at]
  refine congrArg (fun f => normF f (a12 (ix1 o)) (a13 (ix1 o)) y) (funext fun y => ?_)
  exact ref_row a0 a1 a2 a3 a4 a5 a6 a7 a8 a9 a10 a11 Vr hV y o

end

end Cert.ReferenceIdeal.Hand

end
-- ==== Proof.VKernel.lean ====
module

public import proofs.«01_k».proof.Proof.VRegion

@[expose] public section

/-! The kernel's result at an entry, as a function of the argument arrays: the host operations around the two calls put in front
    of what the calls leave. -/

set_option maxRecDepth 16384

noncomputable section

namespace Cert.KernelIdeal.Hand

open Cert.KernelIdeal Cert.KernelIdeal.Gen Cert.Hand
open Idealize.ShloMosaic Idealize.ShloMosaic.TcCoe Idealize.SL.Sem
open Idealize.ShloMosaic.Pipeline (Dat)

section Ideal
variable (m : (ℓ : Loc nD τ sig) → Buf (Elt Ideal) ℓ) (ρ : Dev nD → PrngReg) (c : Dev nD)

/-! ## The host operations before the prep call -/

theorem V1_v1 (y : Fin 16384) (L : Fin 1836) : (V1 m ρ c main_v1 : FVec Ideal S16384x1836 .bf16) (ix2 y L) = (m ((c : Thread nD τ).loc main_arg0) : FVec Ideal S16384x3x34x18 .f32) (ix4 y ⟨L.val / 612, by omega⟩ ⟨L.val / 18 % 34, by omega⟩ ⟨L.val % 18, by omega⟩) := by
  show (StableHlo.after hostOps0 (W0 m ρ c) (Proc.devRef .tc main_v1) : FVec Ideal S16384x1836 .bf16) (ix2 y L) = _
  after_results
  pointwise []
theorem V1_v2 (j : Fin 27) : (V1 m ρ c main_v2 : FVec Ideal S1x27 .f32) (ix2 0 j) = (m ((c : Thread nD τ).loc main_arg2) : FVec Ideal S1x3x3x3 .f32) (ix4 0 ⟨j.val / 9, by omega⟩ ⟨j.val / 3 % 3, by omega⟩ ⟨j.val % 3, by omega⟩) := by
  show (StableHlo.after hostOps0 (W0 m ρ c) (Proc.devRef .tc main_v2) : FVec Ideal S1x27 .f32) (ix2 0 j) = _
  after_results
  pointwise []
theorem V1_v3  : (V1 m ρ c main_v3 : FVec Ideal S1x1 .f32) (ix2 0 0) = (m ((c : Thread nD τ).loc main_arg3) : FVec Ideal S1 .f32) (ix1 0) := by
  show (StableHlo.after hostOps0 (W0 m ρ c) (Proc.devRef .tc main_v3) : FVec Ideal S1x1 .f32) (ix2 0 0) = _
  after_results
  pointwise []
theorem V1_v4 (i o : Fin 10) : (V1 m ρ c main_v4 : FVec Ideal S10x10 .f32) (ix2 i o) = (m ((c : Thread nD τ).loc main_arg4) : FVec Ideal S10x10 .f32) (ix2 o i) := by
  show (StableHlo.after hostOps0 (W0 m ρ c) (Proc.devRef .tc main_v4) : FVec Ideal S10x10 .f32) (ix2 i o) = _
  after_results
  pointwise []
theorem V1_v5 (o : Fin 10) : (V1 m ρ c main_v5 : FVec Ideal S1x10 .f32) (ix2 0 o) = (m ((c : Thread nD τ).loc main_arg5) : FVec Ideal S10 .f32) (ix1 o) := by
  show (StableHlo.after hostOps0 (W0 m ρ c) (Proc.devRef .tc main_v5) : FVec Ideal S1x10 .f32) (ix2 0 o) = _
  after_results
  pointwise []
theorem V1_v6 (i o : Fin 10) : (V1 m ρ c main_v6 : FVec Ideal S10x10 .f32) (ix2 i o) = (m ((c : Thread nD τ).loc main_arg6) : FVec Ideal S10x10 .f32) (ix2 o i) := by
  show (StableHlo.after hostOps0 (W0 m ρ c) (Proc.devRef .tc main_v6) : FVec Ideal S10x10 .f32) (ix2 i o) = _
  after_results
  pointwise []
theorem V1_v7 (o : Fin 10) : (V1 m ρ c main_v7 : FVec Ideal S1x10 .f32) (ix2 0 o) = (m ((c : Thread nD τ).loc main_arg7) : FVec Ideal S10 .f32) (ix1 o) := by
  show (StableHlo.after hostOps0 (W0 m ρ c) (Proc.devRef .tc main_v7) : FVec Ideal S1x10 .f32) (ix2 0 o) = _
  after_results
  pointwise []
theorem V1_v8 (o : Fin 10) : (V1 m ρ c main_v8 : FVec Ideal S10x1 .f32) (ix2 o 0) = (m ((c : Thread nD τ).loc main_arg8) : FVec Ideal S1x10 .f32) (ix2 0 o) := by
  show (StableHlo.after hostOps0 (W0 m ρ c) (Proc.devRef .tc main_v8) : FVec Ideal S10x1 .f32) (ix2 o 0) = _
  after_results
  pointwise []
theorem V1_v9  : (V1 m ρ c main_v9 : FVec Ideal S1x1 .f32) (ix2 0 0) = (m ((c : Thread nD τ).loc main_arg9) : FVec Ideal S1 .f32) (ix1 0) := by
  show (StableHlo.after hostOps0 (W0 m ρ c) (Proc.devRef .tc main_v9) : FVec Ideal S1x1 .f32) (ix2 0 0) = _
  after_results
  pointwise []
theorem V1_v10 (o : Fin 512) : (V1 m ρ c main_v10 : FVec Ideal S1x512 .f32) (ix2 0 o) = (m ((c : Thread nD τ).loc main_arg11) : FVec Ideal S512 .f32) (ix1 o) := by
  show (StableHlo.after hostOps0 (W0 m ρ c) (Proc.devRef .tc main_v10) : FVec Ideal S1x512 .f32) (ix2 0 o) = _
  after_results
  pointwise []

/-! ## What the prep call leaves -/

theorem ld_0 (x : Vec Ideal S32x3 .f32) : View.ld (Val := Elt Ideal) x r0_0 = x := by
  funext j; idx_vars j; pointwise []

theorem out_A (x0 : Vec Ideal S32x3 .f32) (x1 : Vec Ideal S1x27 .f32) (x2 : Vec Ideal S1x1 .f32) (x3 : Vec Ideal S10x10 .f32) (x4 : Vec Ideal S1x10 .f32) (x5 : Vec Ideal S10x10 .f32) (x6 : Vec Ideal S1x10 .f32) (x7 : Vec Ideal S10x1 .f32) (x8 : Vec Ideal S1x1 .f32) (x9 : Vec Ideal S512x512 .f32) (x10 : Vec Ideal S1x512 .f32) (v u : Fin 32) :
    out0_11 (F := Ideal) x0 x1 x2 x3 x4 x5 x6 x7 x8 x9 x10 (ix2 v u) = aR (F := Ideal) x0 x3 x4 x5 x6 x7 x8 5 (ix2 v u) := by
  unfold out0_11
  rw [pay_A, ld_0]
  frame_out

theorem out_B (x0 : Vec Ideal S32x3 .f32) (x1 : Vec Ideal S1x27 .f32) (x2 : Vec Ideal S1x1 .f32) (x3 : Vec Ideal S10x10 .f32) (x4 : Vec Ideal S1x10 .f32) (x5 : Vec Ideal S10x10 .f32) (x6 : Vec Ideal S1x10 .f32) (x7 : Vec Ideal S10x1 .f32) (x8 : Vec Ideal S1x1 .f32) (x9 : Vec Ideal S512x512 .f32) (x10 : Vec Ideal S1x512 .f32) (v : Fin 32) (o : Fin 512) :
    out0_12 (F := Ideal) x0 x1 x2 x3 x4 x5 x6 x7 x8 x9 x10 (ix2 v o)
      = biasR (F := Ideal) (aR x0 x3 x4 x5 x6 x7 x8 5) (View.ld x2 r0_2) (View.ld x9 r0_10) (View.ld x10 r0_11) (ix2 v o) := by
  unfold out0_12
  rw [pay_bias, ld_0]
  frame_out

theorem out_W (x0 : Vec Ideal S32x3 .f32) (x1 : Vec Ideal S1x27 .f32) (x2 : Vec Ideal S1x1 .f32) (x3 : Vec Ideal S10x10 .f32) (x4 : Vec Ideal S1x10 .f32) (x5 : Vec Ideal S10x10 .f32) (x6 : Vec Ideal S1x10 .f32) (x7 : Vec Ideal S10x1 .f32) (x8 : Vec Ideal S1x1 .f32) (x9 : Vec Ideal S512x512 .f32) (x10 : Vec Ideal S1x512 .f32) (L : Fin 1836) (o : Fin 512) :
    out0_13 (F := Ideal) x0 x1 x2 x3 x4 x5 x6 x7 x8 x9 x10 (ix2 L o) = wclR (F := Ideal) x1 (View.ld x9 r0_10) (ix2 L o) := by
  unfold out0_13
  rw [pay_wcl]
  frame_out

/-! ## The arrays the second call finds -/

theorem V3_v1 : V3 m ρ c main_v1 = V1 m ρ c main_v1 :=
  (W3_of m ρ c main_v1 (by decide)).trans (W2_of_ne m ρ c main_v1 (by decide +kernel))
theorem V3_A : V3 m ρ c main_v11_0 = (dat0 (V1 m ρ) c).arrAt 11 cfg0.N :=
  (W3_of m ρ c main_v11_0 (by decide)).trans (W2_arr m ρ c 11)
theorem V3_B : V3 m ρ c main_v11_1 = (dat0 (V1 m ρ) c).arrAt 12 cfg0.N :=
  (W3_of m ρ c main_v11_1 (by decide)).trans (W2_arr m ρ c 12)
theorem V3_W (L : Fin 1836) (o : Fin 512) : (V3 m ρ c main_v12 : FVec Ideal S1836x512 .bf16) (ix2 L o)
    = ((dat0 (V1 m ρ) c).arrAt 13 cfg0.N : FVec Ideal S1836x512 .f32) (ix2 L o) := by
  rw [← W2_arr m ρ c 13]
  show (StableHlo.after hostOps1 (W2 m ρ c) (Proc.devRef .tc main_v12) : FVec Ideal S1836x512 .bf16) (ix2 L o) = _
  generalize W2 m ρ c = W
  after_results
  pointwise []

theorem V3_v13 (o : Fin 512) : (V3 m ρ c main_v13 : FVec Ideal S1x512 .f32) (ix2 0 o) = (m ((c : Thread nD τ).loc main_arg12) : FVec Ideal S512 .f32) (ix1 o) := by
  rw [← W2_args m ρ c main_arg12 (by decide)]
  show (StableHlo.after hostOps1 (W2 m ρ c) (Proc.devRef .tc main_v13) : FVec Ideal S1x512 .f32) (ix2 0 o) = _
  generalize W2 m ρ c = W
  after_results
  pointwise []
theorem V3_v14 (o : Fin 512) : (V3 m ρ c main_v14 : FVec Ideal S1x512 .f32) (ix2 0 o) = (m ((c : Thread nD τ).loc main_arg13) : FVec Ideal S512 .f32) (ix1 o) := by
  rw [← W2_args m ρ c main_arg13 (by decide)]
  show (StableHlo.after hostOps1 (W2 m ρ c) (Proc.devRef .tc main_v14) : FVec Ideal S1x512 .f32) (ix2 0 o) = _
  generalize W2 m ρ c = W
  after_results
  pointwise []

/-- The kernel's result at an entry, over what the second call leaves. -/
theorem W5_out (y : Fin 16384) (o : Fin 512) : (W5 m ρ c (Proc.devRef .tc main_v16) : FVec Ideal S16384x1x512 .f32) (ix3 y 0 o)
    = NOut (F := Ideal) (V3 m ρ) c (ix2 y o) := by
  have h : NOut (F := Ideal) (V3 m ρ) c = W4 m ρ c (Proc.devRef .tc main_v15) := ((W4_arr m ρ c 6).trans (arr1_6 (V3 m ρ) c)).symm
  rw [h]
  show (StableHlo.after hostOps2 (W4 m ρ c) (Proc.devRef .tc main_v16) : FVec Ideal S16384x1x512 .f32) (ix3 y 0 o) = _
  generalize W4 m ρ c = W
  after_results
  pointwise []

end Ideal

end Cert.KernelIdeal.Hand
-- ==== Proof.VEqual.lean ====
module

public import proofs.«01_k».proof.Proof.VOut
public import proofs.«01_k».proof.Proof.VKernel

@[expose] public section

/-! The kernel's result at an entry, over the argument arrays, is the reference's when every argument but the shift is real. -/

set_option maxRecDepth 16384

noncomputable section

namespace Cert.KernelIdeal.Hand

open Cert.KernelIdeal Cert.KernelIdeal.Gen Cert.Hand
open Cert.ReferenceIdeal.Hand (wt rowF normF)
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)
/-- Argument 0 as an array. -/
abbrev A0 : FVec Ideal S16384x3x34x18 .f32 := m ((c : Thread nD τ).loc main_arg0)
/-- Argument 1 as an array. -/
abbrev A1 : FVec Ideal S32x3 .f32 := m ((c : Thread nD τ).loc main_arg1)
/-- Argument 2 as an array. -/
abbrev A2 : FVec Ideal S1x3x3x3 .f32 := m ((c : Thread nD τ).loc main_arg2)
/-- Argument 3 as an array. -/
abbrev A3 : FVec Ideal S1 .f32 := m ((c : Thread nD τ).loc main_arg3)
/-- Argument 4 as an array. -/
abbrev A4 : FVec Ideal S10x10 .f32 := m ((c : Thread nD τ).loc main_arg4)
/-- Argument 5 as an array. -/
abbrev A5 : FVec Ideal S10 .f32 := m ((c : Thread nD τ).loc main_arg5)
/-- Argument 6 as an array. -/
abbrev A6 : FVec Ideal S10x10 .f32 := m ((c : Thread nD τ).loc main_arg6)
/-- Argument 7 as an array. -/
abbrev A7 : FVec Ideal S10 .f32 := m ((c : Thread nD τ).loc main_arg7)
/-- Argument 8 as an array. -/
abbrev A8 : FVec Ideal S1x10 .f32 := m ((c : Thread nD τ).loc main_arg8)
/-- Argument 9 as an array. -/
abbrev A9 : FVec Ideal S1 .f32 := m ((c : Thread nD τ).loc main_arg9)
/-- Argument 10 as an array. -/
abbrev A10 : FVec Ideal S512x512 .f32 := m ((c : Thread nD τ).loc main_arg10)
/-- Argument 11 as an array. -/
abbrev A11 : FVec Ideal S512 .f32 := m ((c : Thread nD τ).loc main_arg11)
/-- Argument 12 as an array. -/
abbrev A12 : FVec Ideal S512 .f32 := m ((c : Thread nD τ).loc main_arg12)
/-- Argument 13 as an array. -/
abbrev A13 : FVec Ideal S512 .f32 := m ((c : Thread nD τ).loc main_arg13)
variable (Vr : Fin 32 → Fin 3 → ℝ) (hV : ∀ v x, (A1 m c) (ix2 v x) = ((Vr v x : ℝ) : EReal))

theorem V1_arg1 : V1 m ρ c main_arg1 = (A1 m c) := W1_args m ρ c main_arg1 (by decide)
theorem V1_arg10 : V1 m ρ c main_arg10 = (A10 m c) := W1_args m ρ c main_arg10 (by decide)

theorem wK_args (v : Fin 32) (k : ℕ) :
    wK (V1 m ρ c main_v4) (V1 m ρ c main_v5) (V1 m ρ c main_v6) (V1 m ρ c main_v7) (V1 m ρ c main_v8) (V1 m ρ c main_v9) Vr v k
      = wt (A4 m c) (A5 m c) (A6 m c) (A7 m c) (A8 m c) (A9 m c) Vr v k := by
  unfold wK wt
  have e4 := fun i o => V1_v4 m ρ c i o
  have e5 := fun o => V1_v5 m ρ c o
  have e6 := fun i o => V1_v6 m ρ c i o
  have e7 := fun o => V1_v7 m ρ c o
  have e8 := fun o => V1_v8 m ρ c o
  simp only [e4, e5, e6, e7, e8, V1_v9 m ρ c]

include hV in
/-- The matrix of weights the second call finds. -/
theorem A_at (v u : Fin 32) : @Eq EReal ((V3 m ρ c main_v11_0 : FVec Ideal S32x32 .f32) (ix2 v u))
    (∑ j ∈ Finset.range 5, wt (A4 m c) (A5 m c) (A6 m c) (A7 m c) (A8 m c) (A9 m c) Vr v j * (if u = nbr Vr v j then (1 : EReal) else 0)) := by
  rw [V3_A, arr0_11, out_A, aR_at _ _ _ _ _ _ _ Vr (by rw [V1_arg1]; exact hV)]
  exact Finset.sum_congr rfl fun j _ => congrArg (· * _) (wK_args m ρ c Vr v j)

include hV in
/-- The bias matrix the second call finds. -/
theorem B_at (v : Fin 32) (o : Fin 512) : @Eq EReal ((V3 m ρ c main_v11_1 : FVec Ideal S32x512 .f32) (ix2 v o))
    ((A3 m c) (ix1 0)
        * (∑ u, ∑ j ∈ Finset.range 5, wt (A4 m c) (A5 m c) (A6 m c) (A7 m c) (A8 m c) (A9 m c) Vr v j * (if u = nbr Vr v j then (1 : EReal) else 0))
        * (∑ f : Fin 512, (A10 m c) (ix2 o f)) + (A11 m c) (ix1 o)) := by
  rw [V3_B, arr0_12, out_B, biasR_at, V1_v3, V1_v10, V1_arg10]
  congr 3
  refine Finset.sum_congr rfl fun u _ => ?_
  rw [aR_at _ _ _ _ _ _ _ Vr (by rw [V1_arg1]; exact hV)]
  exact Finset.sum_congr rfl fun j _ => congrArg (· * _) (wK_args m ρ c Vr v j)

/-- The folded weights the second call finds. -/
theorem W_at (L : Fin 1836) (o : Fin 512) : @Eq EReal ((V3 m ρ c main_v12 : FVec Ideal S1836x512 .bf16) (ix2 L o))
    (∑ f : Fin 512, (∑ j : Fin 27, if L.val = tapAt j.val f then (A2 m c)
        (ix4 0 ⟨j.val / 9, by omega⟩ ⟨j.val / 3 % 3, by omega⟩ ⟨j.val % 3, by omega⟩) else 0) * (A10 m c) (ix2 o f)) := by
  rw [V3_W, arr0_13, out_W, wclR_at, V1_arg10]
  refine Finset.sum_congr rfl fun f _ => congrArg (· * _) ?_
  rw [convR_at _ 27 (le_refl _)]
  refine Finset.sum_congr rfl fun j _ => ?_
  exact ite_congr rfl (fun _ => V1_v2 m ρ c j) fun _ => rfl

/-- Every argument but the shift is real at every entry. -/
structure Fin_args : Prop where
  h0 : ∀ i, IsR ((A0 m c) i : EReal)
  h1 : ∀ i, IsR ((A1 m c) i : EReal)
  h2 : ∀ i, IsR ((A2 m c) i : EReal)
  h3 : ∀ i, IsR ((A3 m c) i : EReal)
  h4 : ∀ i, IsR ((A4 m c) i : EReal)
  h5 : ∀ i, IsR ((A5 m c) i : EReal)
  h6 : ∀ i, IsR ((A6 m c) i : EReal)
  h7 : ∀ i, IsR ((A7 m c) i : EReal)
  h8 : ∀ i, IsR ((A8 m c) i : EReal)
  h9 : ∀ i, IsR ((A9 m c) i : EReal)
  h10 : ∀ i, IsR ((A10 m c) i : EReal)
  h11 : ∀ i, IsR ((A11 m c) i : EReal)
  h12 : ∀ i, IsR ((A12 m c) i : EReal)

variable (hf : Fin_args m c)
include hV hf

theorem wt_real (v : Fin 32) (k : ℕ) : IsR (wt (A4 m c) (A5 m c) (A6 m c) (A7 m c) (A8 m c) (A9 m c) Vr v k) :=
  isR_mlp (fun _ _ => hf.h4 _) (fun _ => hf.h5 _) (fun _ _ => hf.h6 _) (fun _ => hf.h7 _) (fun _ => hf.h8 _) (hf.h9 _) (fun _ => isR_coe _) fun _ => isR_coe _

/-- The kernel's row is the reference's. -/
theorem ker_row (y : Fin 16384) (o : Fin 512) :
    RowV (V3 m ρ) c y o = rowF (A0 m c) (A2 m c) (A3 m c) (A4 m c) (A5 m c) (A6 m c) (A7 m c) (A8 m c) (A9 m c) (A10 m c) (A11 m c) Vr y o := by
  unfold RowV rowE rowF
  have eA := A_at m ρ c Vr hV
  have eB := B_at m ρ c Vr hV
  have eW := W_at m ρ c
  have eX : ∀ (y : Fin 16384) (L : Fin 1836), @Eq EReal ((V3 m ρ c main_v1 : FVec Ideal S16384x1836 .bf16) (ix2 y L))
      ((A0 m c) (ix4 y ⟨L.val / 612, by omega⟩ ⟨L.val / 18 % 34, by omega⟩ ⟨L.val % 18, by omega⟩)) := by
    rw [V3_v1]
    exact V1_v1 m ρ c
  beta_reduce
  simp only [eA, eB, eW, eX]
  refine congrArg (max · 0) (Eq.trans ?_ (row_eq (fun u ci r q => (A0 m c)
      (ix4 ⟨y.val / 32 * 32 + u.val, by omega⟩ ci r q)) (fun a b d => (A2 m c) (ix4 0 a b d))
    (fun f => (A10 m c) (ix2 o f)) _ _ (fun k => wt (A4 m c) (A5 m c) (A6 m c) (A7 m c) (A8 m c) (A9 m c) Vr ⟨y.val % 32, by omega⟩ k)
    (fun k => nbr Vr ⟨y.val % 32, by omega⟩ k) (fun _ _ _ _ => hf.h0 _) (fun _ _ _ => hf.h2 _) (fun _ => hf.h10 _) (hf.h11 _) (hf.h3 _)
    fun k => wt_real m c Vr hV hf _ k))
  simp only [Nat.mul_comm 32]

theorem row_real' (y : Fin 16384) (o : Fin 512) : IsR (rowF (A0 m c) (A2 m c) (A3 m c) (A4 m c) (A5 m c) (A6 m c) (A7 m c) (A8 m c) (A9 m c) (A10 m c) (A11 m c) Vr y o) :=
  ((isR_sum _ fun f => (isR_sum _ fun k => (wt_real m c Vr hV hf _ _).mul ((isR_sum _ fun _ => isR_sum _ fun _ => isR_sum _ fun _ =>
    (hf.h0 _).mul (hf.h2 _)).add (hf.h3 _))).mul (hf.h10 _)).add (hf.h11 _)).max isR_zero

/-- The kernel's result. -/
theorem ker_out (y : Fin 16384) (o : Fin 512) : @Eq EReal ((W5 m ρ c (Proc.devRef .tc main_v16) : FVec Ideal S16384x1x512 .f32) (ix3 y 0 o))
    (normF (fun y => rowF (A0 m c) (A2 m c) (A3 m c) (A4 m c) (A5 m c) (A6 m c) (A7 m c) (A8 m c) (A9 m c) (A10 m c) (A11 m c) Vr y o) ((A12 m c) (ix1 o)) ((A13 m c) (ix1 o)) y) := by
  rw [W5_out, NOut_at, V3_v13, V3_v14]
  simp only [ker_row m ρ c Vr hV hf]
  exact norm_eq (fun y => rowF (A0 m c) (A2 m c) (A3 m c) (A4 m c) (A5 m c) (A6 m c) (A7 m c) (A8 m c) (A9 m c) (A10 m c) (A11 m c) Vr y o) _ _ y (fun y => row_real' m c Vr hV hf y o) (hf.h12 _)

end Cert.KernelIdeal.Hand

end
-- ==== Proof.VPre.lean ====
module

public import proofs.«01_k».proof.Proof.VSpec
public import proofs.«01_k».proof.Pre_finite
public import Idealize.ShloMosaic.Lib.ReduceAll

@[expose] public section

/-! What the precondition `finite` says of an entry: it is a real number. -/

set_option maxRecDepth 16384

noncomputable section

namespace Cert.Hand

open Idealize.ShloMosaic Cert.Pre_finite Cert.Pre_finite.Facts

/-- A value below plus infinity in absolute value is a real number. -/
theorem isR_of_finite (x : Ideal .f32) (h : FloatOps.cmpf .olt (FloatOps.hostAbsf x) (FloatOps.ofBits (F := Ideal) .f32 0x7F800000#32) = 1#1) :
    IsR (x : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  have hlt : max (x : EReal) (-(x : EReal)) < ⊤ := by
    by_contra hn
    simp [Ideal.cmp, hn] at h
  have hlt := max_lt_iff.mp hlt
  refine ⟨(x : EReal).toReal, (EReal.coe_toReal (lt_top_iff_ne_top.mp hlt.1) fun hb => ?_).symm⟩
  exact lt_irrefl _ (by simpa [hb] using hlt.2 : (⊤ : EReal) < ⊤)

instance : Subsingleton S_.Idx := ⟨fun a b => funext fun d => d.elim0⟩

/-- One array's part of the precondition, at an entry. -/
theorem isR_of_all {s : Shape} {axes : List (Fin s.rank)} (x : FVec Ideal s .f32) (hb : S_.BroadcastsInDim s (![] : Fin 0 → Fin s.rank)) (hr : s.ReducesTo axes S_)
    (hu : 0 < S_.numel) (j : S_.Idx)
    (e : Host.reduce IntOp.andi (cmpf .olt (Host.absf x) (broadcastInDim s ![] hb (constant S_ .f32 0x7F800000#32))) (constantI S_ 1 1#1) hr hu j = 1#1)
    (i : s.Idx) : IsR (x i : EReal) :=
  isR_of_finite (x i) (Host.reduce_andi_all _ _ hr hu j e i)

/-- Both words of a conjunction that is one are one. -/
theorem and_one (a b : BitVec 1) (h : IntOp.andi a b = 1#1) : a = 1#1 ∧ b = 1#1 := by
  revert a b; decide

variable [Cert.Pre_finite.Facts]

/-- Every argument but the shift is real at every entry. -/
theorem finite_all (x0 : FVec Ideal S16384x3x34x18 .f32) (x1 : FVec Ideal S32x3 .f32) (x2 : FVec Ideal S1x3x3x3 .f32) (x3 : FVec Ideal S1 .f32)
    (x4 : FVec Ideal S10x10 .f32) (x5 : FVec Ideal S10 .f32) (x6 : FVec Ideal S10x10 .f32) (x7 : FVec Ideal S10 .f32) (x8 : FVec Ideal S1x10 .f32)
    (x9 : FVec Ideal S1 .f32) (x10 : FVec Ideal S512x512 .f32) (x11 x12 x13 : FVec Ideal S512 .f32)
    (h : Cert.Pre_finite.fn (F := Ideal) x0 x1 x2 x3 x4 x5 x6 x7 x8 x9 x10 x11 x12 x13 = fun _ => 1#1) :
    (∀ i, IsR (x0 i : EReal)) ∧ (∀ i, IsR (x1 i : EReal)) ∧ (∀ i, IsR (x2 i : EReal)) ∧ (∀ i, IsR (x3 i : EReal)) ∧ (∀ i, IsR (x4 i : EReal))
      ∧ (∀ i, IsR (x5 i : EReal)) ∧ (∀ i, IsR (x6 i : EReal)) ∧ (∀ i, IsR (x7 i : EReal)) ∧ (∀ i, IsR (x8 i : EReal)) ∧ (∀ i, IsR (x9 i : EReal))
      ∧ (∀ i, IsR (x10 i : EReal)) ∧ (∀ i, IsR (x11 i : EReal)) ∧ (∀ i, IsR (x12 i : EReal)) := by
  have h := congrFun h (fun d => d.elim0)
  dsimp only [fn, fn_part1, fn_part2, fn_part3] at h
  obtain ⟨h, p12⟩ := and_one _ _ h
  obtain ⟨h, p11⟩ := and_one _ _ h
  obtain ⟨h, p10⟩ := and_one _ _ h
  obtain ⟨h, p9⟩ := and_one _ _ h
  obtain ⟨h, p8⟩ := and_one _ _ h
  obtain ⟨h, p7⟩ := and_one _ _ h
  obtain ⟨h, p6⟩ := and_one _ _ h
  obtain ⟨h, p5⟩ := and_one _ _ h
  obtain ⟨h, p4⟩ := and_one _ _ h
  obtain ⟨h, p3⟩ := and_one _ _ h
  obtain ⟨h, p2⟩ := and_one _ _ h
  obtain ⟨h, p1⟩ := and_one _ _ h
  obtain ⟨_, p0⟩ := and_one _ _ h
  exact ⟨isR_of_all _ _ _ _ _ p0, isR_of_all _ _ _ _ _ p1, isR_of_all _ _ _ _ _ p2, isR_of_all _ _ _ _ _ p3, isR_of_all _ _ _ _ _ p4,
    isR_of_all _ _ _ _ _ p5, isR_of_all _ _ _ _ _ p6, isR_of_all _ _ _ _ _ p7, isR_of_all _ _ _ _ _ p8, isR_of_all _ _ _ _ _ p9,
    isR_of_all _ _ _ _ _ p10, isR_of_all _ _ _ _ _ p11, isR_of_all _ _ _ _ _ p12⟩

end Cert.Hand
-- ==== Proof.Value.lean ====
/- The value claim: from equal real arguments the idealized kernel and the reference end with equal results. -/
module

public import proofs.«01_k».proof.Defs
public import proofs.«01_k».proof.Proof.VEqual
public import proofs.«01_k».proof.Proof.VPre
public import proofs.«01_k».proof.Proof.Gen.Pre_finite
public import proofs.«01_k».proof.Proof.Frames

@[expose] public section

set_option maxRecDepth 16384

noncomputable section

namespace Cert.Proof

open Idealize.ShloMosaic Idealize.ShloMosaic.TcCoe Idealize.SL.Sem Cert.Hand

theorem frame_pi_finite : Cert.quiescent_KernelIdeal_pre_finite (hKernelIdeal := Cert.KernelIdeal.Gen.facts) (hPre_finite := Cert.Pre_finite.Gen.facts) :=
  fun m ρ _ => Cert.KernelIdeal.Hand.frame (F := Ideal) m ρ

theorem frame_ri_finite : Cert.quiescent_ReferenceIdeal_pre_finite (hReferenceIdeal := Cert.ReferenceIdeal.Gen.facts) (hPre_finite := Cert.Pre_finite.Gen.facts) :=
  fun m ρ _ => frame_ri m ρ trivial

/-- Where the reference ends, over its arguments. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v280) = Cert.ReferenceIdeal.Read.val_main_v280 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)) :=
  (θ_run Cert.ReferenceIdeal.defs _ _).mono
    (fun _ h c => ⟨(h c).1.trans (Cert.ReferenceIdeal.Read.val_main_v280_eq (F := Ideal) (StableHlo.launchContents m' c)), (h c).2⟩)
    (Cert.ReferenceIdeal.Value.run (F := Ideal) m' g')

/-- Arrays of one row each agree when they agree at every row and lane. -/
theorem ext_rows (f g : FVec Ideal Cert.KernelIdeal.S16384x1x512 .f32) (h : ∀ (y : Fin 16384) (o : Fin 512), @Eq EReal (f (ix3 y 0 o)) (g (ix3 y 0 o))) : f = g := by
  funext j
  obtain ⟨y, z, o, rfl⟩ : ∃ (y : Fin 16384) (z : Fin 1) (o : Fin 512), j = ix3 y z o := ⟨j 0, j 1, j 2, eq_ix3 j⟩
  obtain rfl : z = 0 := Subsingleton.elim _ _
  exact h y o

/-- The two results, over the kernel's arguments. -/
theorem results_eq (m : (ℓ : Loc Cert.KernelIdeal.nD Cert.KernelIdeal.τ Cert.KernelIdeal.sig) → Buf (Elt Ideal) ℓ)
    (g : Dev Cert.KernelIdeal.nD → PrngReg) (hpre : Cert.Pre_KernelIdeal_finite (hPre_finite := Cert.Pre_finite.Gen.facts) m) (c : Dev Cert.KernelIdeal.nD) :
    Cert.ReferenceIdeal.Read.val_main_v280 (F := Ideal) (Cert.KernelIdeal.Hand.A0 m c) (Cert.KernelIdeal.Hand.A1 m c) (Cert.KernelIdeal.Hand.A2 m c) (Cert.KernelIdeal.Hand.A3 m c) (Cert.KernelIdeal.Hand.A4 m c) (Cert.KernelIdeal.Hand.A5 m c) (Cert.KernelIdeal.Hand.A6 m c) (Cert.KernelIdeal.Hand.A7 m c) (Cert.KernelIdeal.Hand.A8 m c) (Cert.KernelIdeal.Hand.A9 m c) (Cert.KernelIdeal.Hand.A10 m c) (Cert.KernelIdeal.Hand.A11 m c) (Cert.KernelIdeal.Hand.A12 m c) (Cert.KernelIdeal.Hand.A13 m c)
      = Cert.KernelIdeal.Hand.W5 m g c (Proc.devRef .tc Cert.KernelIdeal.main_v16) := by
  obtain ⟨p0, p1, p2, p3, p4, p5, p6, p7, p8, p9, p10, p11, p12⟩ :=
    haveI := Cert.Pre_finite.Gen.facts
    finite_all _ _ _ _ _ _ _ _ _ _ _ _ _ _ (hpre c)
  have hf : Cert.KernelIdeal.Hand.Fin_args m c := ⟨p0, p1, p2, p3, p4, p5, p6, p7, p8, p9, p10, p11, p12⟩
  choose V hV using p1
  exact ext_rows _ _ fun y o => (Cert.ReferenceIdeal.Hand.ref_out (Cert.KernelIdeal.Hand.A0 m c) (Cert.KernelIdeal.Hand.A1 m c) (Cert.KernelIdeal.Hand.A2 m c) (Cert.KernelIdeal.Hand.A3 m c) (Cert.KernelIdeal.Hand.A4 m c) (Cert.KernelIdeal.Hand.A5 m c) (Cert.KernelIdeal.Hand.A6 m c) (Cert.KernelIdeal.Hand.A7 m c) (Cert.KernelIdeal.Hand.A8 m c) (Cert.KernelIdeal.Hand.A9 m c) (Cert.KernelIdeal.Hand.A10 m c) (Cert.KernelIdeal.Hand.A11 m c) (Cert.KernelIdeal.Hand.A12 m c) (Cert.KernelIdeal.Hand.A13 m c) (fun v x => V (ix2 v x)) (fun v x => hV (ix2 v x)) y o).trans
    (Cert.KernelIdeal.Hand.ker_out m g c (fun v x => V (ix2 v x)) (fun v x => hV (ix2 v x)) hf y o).symm

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨_, Cert.KernelIdeal.Hand.run (F := Ideal) m g, ?_⟩
  refine (θ_run Cert.ReferenceIdeal.defs _ _).mono (fun _ h c => ⟨(h c).1.trans (Eq.trans ?_ (results_eq m g hpre c)), (h c).2⟩) (ref_run m' g')
  obtain ⟨e0, e1, e2, e3, e4, e5, e6, e7, e8, e9, e10, e11, e12, e13⟩ := hagree c
  rw [e0, e1, e2, e3, e4, e5, e6, e7, e8, e9, e10, e11, e12, e13]

end Cert.Proof

end
-- ==== Proof.lean ====
module

public import proofs.«01_k».proof.Defs
public import proofs.«01_k».proof.Proof.Gen.ReferenceIdeal.Run
public import proofs.«01_k».proof.Proof.Frames
public import proofs.«01_k».proof.Proof.Value

@[expose] public section

noncomputable section

namespace Cert.Proof

theorem claim : Cert.Claim := ⟨Cert.Kernel.Gen.facts, Cert.KernelIdeal.Gen.facts, Cert.ReferenceIdeal.Gen.facts, Cert.Pre_finite.Gen.facts,
  frame_p, frame_pi, frame_pi_finite, frame_ri, frame_ri_finite, preserves, algebraic⟩

end Cert.Proof

end
